-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_inputs_ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x256x512 .f32) (main_arg1 : FVec F S512x256 .f32) (main_arg2 : FVec F S2x2048x4x64 .f32) (main_arg3 : FVec F S2x2048x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x4x64 .f32 := Host.absf main_arg2
  let main_cst_2 : FVec F S_ .f32 := constant S_ .f32 0x7F800000#32
  let main_v10 : FVec F S2x2048x4x64 .f32 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S576x128 : Shape := ⟨2, ![576, 128]⟩
abbrev S3x576x128 : Shape := ⟨3, ![3, 576, 128]⟩
abbrev S3 : Shape := ⟨1, ![3]⟩
abbrev S_ : Shape := ⟨0, ![]⟩
abbrev S256x256 : Shape := ⟨2, ![256, 256]⟩
abbrev S1x256x512 : Shape := ⟨3, ![1, 256, 512]⟩
abbrev S256x64 : Shape := ⟨2, ![256, 64]⟩
abbrev S1x256x1x64 : Shape := ⟨4, ![1, 256, 1, 64]⟩
abbrev S256 : Shape := ⟨1, ![256]⟩
abbrev S64 : Shape := ⟨1, ![64]⟩
abbrev S64x1 : Shape := ⟨2, ![64, 1]⟩
abbrev S1 : Shape := ⟨1, ![1]⟩
abbrev S1x576x128 : Shape := ⟨3, ![1, 576, 128]⟩
abbrev S256x1 : Shape := ⟨2, ![256, 1]⟩
abbrev S64x512 : Shape := ⟨2, ![64, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S576x128, .bf16⟩
  | .local _ .vmem, ⟨7, _⟩ => ⟨S576x128, .bf16⟩
  | .local _ .vmem, ⟨8, _⟩ => ⟨S3x576x128, .bf16⟩
  | .local _ .vmem, ⟨9, _⟩ => ⟨S3x576x128, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_100 : BitVec 32 := 1#32
  let v199 : BitVec 32 := Scalar.muli v3 c1_i32_100
  let v200 : BitVec 32 := Scalar.addi c0_i32_101 v199
  v200.toNat
def k0_dev5 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_199 : BitVec 32 := 1#32
  let v338 : BitVec 32 := Scalar.muli v3 c1_i32_199
  let v339 : BitVec 32 := Scalar.addi c0_i32_200 v338
  v339.toNat
def k0_dev6 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_226 : BitVec 32 := 1#32
  let v363 : BitVec 32 := Scalar.muli v4 c1_i32_226
  let v364 : BitVec 32 := Scalar.addi c0_i32_227 v363
  v364.toNat
def k0_dev7 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_253 : BitVec 32 := 1#32
  let v388 : BitVec 32 := Scalar.muli v4 c1_i32_253
  let v389 : BitVec 32 := Scalar.addi c0_i32_254 v388
  v389.toNat
def k0_dev8 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_280 : BitVec 32 := 1#32
  let v413 : BitVec 32 := Scalar.muli v5 c1_i32_280
  let v414 : BitVec 32 := Scalar.addi c0_i32_281 v413
  v414.toNat
def k0_dev9 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_307 : BitVec 32 := 1#32
  let v438 : BitVec 32 := Scalar.muli v5 c1_i32_307
  let v439 : BitVec 32 := Scalar.addi c0_i32_308 v438
  v439.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x4x256x2048 : Shape := ⟨4, ![2, 4, 256, 2048]⟩
abbrev S1x1x256x2048 : Shape := ⟨4, ![1, 1, 256, 2048]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 137
  | .vmem => 0
  | .smem => 0
  | _ => 0

abbrev hbmTy0_0 (i : Nat) : BufTy := match i % 128 with
  | 0 => ⟨S2x256x512, .f32⟩
  | 1 => ⟨S512x256, .f32⟩
  | 2 => ⟨S2x2048x4x64, .f32⟩
  | 3 => ⟨S2x2048x4x64, .f32⟩
  | 4 => ⟨S256x512, .f32⟩
  | 5 => ⟨S2x256x256, .f32⟩
  | 6 => ⟨S2x256x4x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S1x2048, .i32⟩
  | 47 => ⟨S256x2048, .i32⟩
  | 48 => ⟨S256x2048, .i32⟩
  | 49 => ⟨S256x2048, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x2048, .i32⟩
  | 57 => ⟨S1x2048, .i32⟩
  | 58 => ⟨S_, .i32⟩
  | 59 => ⟨S1x2048, .i32⟩
  | 60 => ⟨S1x2048, .i1⟩
  | 61 => ⟨S_, .i32⟩
  | 62 => ⟨S1x2048, .i32⟩
  | 63 => ⟨S1x2048, .i1⟩
  | 64 => ⟨S_, .i32⟩
  | 65 => ⟨S_, .i1⟩
  | 66 => ⟨S1x2048, .i1⟩
  | 67 => ⟨S1x2048, .i1⟩
  | 68 => ⟨S1x2048, .i1⟩
  | 69 => ⟨S1x2048, .i32⟩
  | 70 => ⟨S1x2048, .i32⟩
  | 71 => ⟨S1x2048, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x2048, .i32⟩
  | 95 => ⟨S256x2048, .i32⟩
  | 96 => ⟨S256x2048, .i1⟩
  | 97 => ⟨S256x2048, .i1⟩
  | 98 => ⟨S2x4x256x2048, .f32⟩
  | 99 => ⟨S_, .f32⟩
  | 100 => ⟨S2x4x256x2048, .f32⟩
  | 101 => ⟨S2x4x256x2048, .f32⟩
  | 102 => ⟨S1x1x256x2048, .i1⟩
  | 103 => ⟨S_, .f32⟩
  | 104 => ⟨S_, .f32⟩
  | 105 => ⟨S2x4x256x2048, .i1⟩
  | 106 => ⟨S2x4x256x2048, .f32⟩
  | 107 => ⟨S2x4x256x2048, .f32⟩
  | 108 => ⟨S_, .f32⟩
  | 109 => ⟨S2x4x256, .f32⟩
  | 110 => ⟨S2x4x256x1, .f32⟩
  | 111 => ⟨S2x4x256x2048, .f32⟩
  | 112 => ⟨S2x4x256x2048, .f32⟩
  | 113 => ⟨S2x4x256x2048, .f32⟩
  | 114 => ⟨S_, .i1⟩
  | 115 => ⟨S256, .i1⟩
  | 116 => ⟨S1x1x256x1, .i1⟩
  | 117 => ⟨S_, .f32⟩
  | 118 => ⟨S2x4x256, .f32⟩
  | 119 => ⟨S2x4x256x1, .f32⟩
  | 120 => ⟨S_, .f32⟩
  | 121 => ⟨S_, .f32⟩
  | 122 => ⟨S2x4x256x1, .i1⟩
  | 123 => ⟨S2x4x256x1, .f32⟩
  | 124 => ⟨S2x4x256x1, .f32⟩
  | 125 => ⟨S2x4x256x2048, .f32⟩
  | 126 => ⟨S2x4x256x2048, .f32⟩
  | 127 => ⟨S1x1x256x1, .i1⟩
  | _ => ⟨S2x256x512, .f32⟩

abbrev hbmTy0_1 (i : Nat) : BufTy := match i % 128 with
  | 0 => ⟨S_, .f32⟩
  | 1 => ⟨S_, .f32⟩
  | 2 => ⟨S2x4x256x2048, .i1⟩
  | 3 => ⟨S2x4x256x2048, .f32⟩
  | 4 => ⟨S2x4x256x2048, .f32⟩
  | 5 => ⟨S2x4x64x256, .f32⟩
  | 6 => ⟨S2x256x4x64, .f32⟩
  | 7 => ⟨S2x256x256, .f32⟩
  | 8 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Mesh.lean ====
/-
# The exchange pattern of the attention kernel: partners, buffers, semaphores, cells

Eight devices hold one eighth of the keys and values each. A device computes, for both batch entries, the partial
weighted sums and partial normalisers of its own keys, and then the devices add these up by recursive doubling: in
step `i = 0, 1, 2` a device swaps its running sum with the device whose number differs in bit `i`. Batch entry 0
travels in the accumulator `acc 0` and lands in a slot of the ring buffer `rc 0`, batch entry 1 in `acc 1` and `rc 1`.

The six transfers of a device are numbered in the order of their start: transfer `t` moves accumulator `t % 2` in
step `t / 2`. This module names the partner of a device, the memory regions of a transfer, its two semaphores, and the
thirteen semaphore cells of a device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Partners -/

set_option backward.proofsInPublic true in
/-- The partner of device `c` in step `i`: the device whose number differs from `c` in bit `i`. -/
def pr (i : Fin 3) (c : Dev nD) : Dev nD := ⟨(c.val ^^^ 2 ^ i.val) % 8, Nat.mod_lt _ (by decide)⟩

/-- Being partners is mutual. -/
theorem pr_pr (i : Fin 3) (c : Dev nD) : pr i (pr i c) = c := by revert c; revert i; decide

/-- The three announcements and the six transfers name these partners. -/
theorem dev1_eq (c : Dev nD) : (⟨k0_dev1 c, k0_dev1_lt c⟩ : Dev nD) = pr 0 c := by revert c; decide
/-- The second announcement names the partner of step 1. -/
theorem dev2_eq (c : Dev nD) : (⟨k0_dev2 c, k0_dev2_lt c⟩ : Dev nD) = pr 1 c := by revert c; decide
/-- The third announcement names the partner of step 2. -/
theorem dev3_eq (c : Dev nD) : (⟨k0_dev3 c, k0_dev3_lt c⟩ : Dev nD) = pr 2 c := by revert c; decide
/-- The first transfer names the partner of step 0. -/
theorem dev4_eq (c : Dev nD) : (⟨k0_dev4 c, k0_dev4_lt c⟩ : Dev nD) = pr 0 c := by revert c; decide
/-- The second transfer names the partner of step 0. -/
theorem dev5_eq (c : Dev nD) : (⟨k0_dev5 c, k0_dev5_lt c⟩ : Dev nD) = pr 0 c := by revert c; decide
/-- The third transfer names the partner of step 1. -/
theorem dev6_eq (c : Dev nD) : (⟨k0_dev6 c, k0_dev6_lt c⟩ : Dev nD) = pr 1 c := by revert c; decide
/-- The fourth transfer names the partner of step 1. -/
theorem dev7_eq (c : Dev nD) : (⟨k0_dev7 c, k0_dev7_lt c⟩ : Dev nD) = pr 1 c := by revert c; decide
/-- The fifth transfer names the partner of step 2. -/
theorem dev8_eq (c : Dev nD) : (⟨k0_dev8 c, k0_dev8_lt c⟩ : Dev nD) = pr 2 c := by revert c; decide
/-- The sixth transfer names the partner of step 2. -/
theorem dev9_eq (c : Dev nD) : (⟨k0_dev9 c, k0_dev9_lt c⟩ : Dev nD) = pr 2 c := by revert c; decide

/-- Taking the partner in one step is a rearrangement of the devices. -/
def swap (i : Fin 3) : Dev nD ≃ Dev nD := ⟨pr i, pr i, pr_pr i, pr_pr i⟩

/-! ## Transfers -/

/-- The batch entry transfer `t` carries. -/
def side : Fin 6 → Fin 2 | 0 => 0 | 1 => 1 | 2 => 0 | 3 => 1 | 4 => 0 | 5 => 1
/-- The step transfer `t` belongs to. -/
def step : Fin 6 → Fin 3 | 0 => 0 | 1 => 0 | 2 => 1 | 3 => 1 | 4 => 2 | 5 => 2

/-- The accumulator of a batch entry. -/
def acc : Fin 2 → Memref sig .tc .vmem S576x128 .bf16
  | 0 => Memref.whole cc0_scratch0 | 1 => Memref.whole cc0_scratch1
/-- The landing buffer of a batch entry: three slots, one per step. -/
def rc : Fin 2 → Memref sig .tc .vmem S3x576x128 .bf16
  | 0 => Memref.whole cc0_scratch2 | 1 => Memref.whole cc0_scratch3

/-- Each slot lies within its landing buffer. -/
theorem inb_slot (i : Fin 3) : ∀ a, (![i.val, 0, 0] : Fin 3 → ℕ) a + S1x576x128.size a ≤ S3x576x128.size a := by
  revert i; decide
/-- Slot `i` of a landing buffer, as a rectangle. -/
abbrev slotRect (i : Fin 3) : Rect S3x576x128 := Rect.unit (s := S3x576x128) ![i.val, 0, 0] S1x576x128.size (inb_slot i)
/-- Slot `i` of the landing buffer of batch entry `x`. -/
def slot (x : Fin 2) (i : Fin 3) : Memref sig .tc .vmem S576x128 .bf16 :=
  ((rc x).slice (slotRect i) (fun _ => rfl)).squeeze S576x128 squeezes_S1x576x128_S576x128

/-- Where transfer `t` lands. -/
abbrev dstM (t : Fin 6) : Memref sig .tc .vmem S576x128 .bf16 := slot (side t) (step t)
/-- What transfer `t` reads. -/
abbrev srcM (t : Fin 6) : Memref sig .tc .vmem S576x128 .bf16 := acc (side t)

/-- The semaphore counted up when transfer `t` has left. -/
def sndS : Fin 6 → DmaSem sig
  | 0 => ⟨6, by decide⟩ | 1 => ⟨12, by decide⟩ | 2 => ⟨7, by decide⟩ | 3 => ⟨13, by decide⟩ | 4 => ⟨8, by decide⟩ | 5 => ⟨14, by decide⟩
/-- The semaphore counted up at the receiver when transfer `t` has landed. -/
def rcvS : Fin 6 → DmaSem sig
  | 0 => ⟨9, by decide⟩ | 1 => ⟨15, by decide⟩ | 2 => ⟨10, by decide⟩ | 3 => ⟨16, by decide⟩ | 4 => ⟨11, by decide⟩ | 5 => ⟨17, by decide⟩
/-- The semaphore on which a device learns that its partners have started. -/
abbrev barS : Sem sig := (SemArray.scalar (sig.barrier 0 rfl) : Sems sig S_).sem

/-- What a semaphore is used for. -/
inductive Use where
  | bar | snd (t : Fin 6) | rcv (t : Fin 6) | other
  deriving DecidableEq

/-- The use of each semaphore. -/
def use : SemLoc sig → Use
  | .reg _ => .bar
  | .dma q => match q.val with
    | 6 => .snd 0 | 12 => .snd 1 | 7 => .snd 2 | 13 => .snd 3 | 8 => .snd 4 | 14 => .snd 5
    | 9 => .rcv 0 | 15 => .rcv 1 | 10 => .rcv 2 | 16 => .rcv 3 | 11 => .rcv 4 | 17 => .rcv 5
    | _ => .other

/-- A departure semaphore is used for its transfer leaving. -/
theorem use_snd (t : Fin 6) : use (.dma (sndS t)) = .snd t := by revert t; decide
/-- An arrival semaphore is used for its transfer landing. -/
theorem use_rcv (t : Fin 6) : use (.dma (rcvS t)) = .rcv t := by revert t; decide
/-- The starting semaphore is used for starting. -/
theorem use_bar : use (.reg barS) = .bar := rfl

/-! ## Cells -/

/-- The starting semaphore of device `c`. -/
abbrev barCell (c : Dev nD) : GSem nD τ sig := ((c : Thread nD τ), .reg barS)
/-- The departure semaphore of transfer `t` on device `c`. -/
abbrev sndCell (t : Fin 6) (c : Dev nD) : GSem nD τ sig := ((c : Thread nD τ), .dma (sndS t))
/-- The arrival semaphore of transfer `t` on device `c`. -/
abbrev rcvCell (t : Fin 6) (c : Dev nD) : GSem nD τ sig := ((c : Thread nD τ), .dma (rcvS t))

/-- The thirteen cells of a device: the starting cell, six departures, six arrivals. -/
abbrev Cell := Fin 13
/-- The semaphore of each cell. -/
def csem : Cell → SemLoc sig
  | 0 => .reg barS
  | 1 => .dma (sndS 0) | 2 => .dma (sndS 1) | 3 => .dma (sndS 2) | 4 => .dma (sndS 3) | 5 => .dma (sndS 4) | 6 => .dma (sndS 5)
  | 7 => .dma (rcvS 0) | 8 => .dma (rcvS 1) | 9 => .dma (rcvS 2) | 10 => .dma (rcvS 3) | 11 => .dma (rcvS 4) | 12 => .dma (rcvS 5)
/-- The index of a departure cell and of an arrival cell. -/
def kS (t : Fin 6) : Cell := ⟨1 + t.val, by omega⟩
/-- The index of an arrival cell. -/
def kR (t : Fin 6) : Cell := ⟨7 + t.val, by omega⟩
/-- The semaphore of a departure cell. -/
theorem csem_kS (t : Fin 6) : csem (kS t) = .dma (sndS t) := by revert t; decide
/-- The semaphore of an arrival cell. -/
theorem csem_kR (t : Fin 6) : csem (kR t) = .dma (rcvS t) := by revert t; decide
/-- The semaphore of a cell of a device. -/
abbrev kcell (ck : Dev nD × Cell) : GSem nD τ sig := ((ck.1 : Thread nD τ), csem ck.2)
/-- A device's departure cell, as a semaphore. -/
theorem kcell_S (t : Fin 6) (c : Dev nD) : kcell (c, kS t) = sndCell t c := by unfold kcell sndCell; rw [csem_kS]
/-- A device's arrival cell, as a semaphore. -/
theorem kcell_R (t : Fin 6) (c : Dev nD) : kcell (c, kR t) = rcvCell t c := by unfold kcell rcvCell; rw [csem_kR]

/-- The credit of one transfer: every transfer moves a whole accumulator. -/
abbrev N : ℕ := (acc 0).view.dmaCredit
/-- A transfer has some credit. -/
theorem N_pos : 0 < N := View.dmaCredit_pos _ (by decide)
/-- A copy of either accumulator has that credit. -/
theorem N_acc (x : Fin 2) : (acc x).view.dmaCredit = N := by
  match x with | 0 => rfl | 1 => rfl
/-- A copy into any slot has that credit. -/
theorem N_slot (x : Fin 2) (i : Fin 3) : (slot x i).view.dmaCredit = N := by
  match x with | 0 => rfl | 1 => rfl

end Cert.Attn
-- ==== Proof.Spec.lean ====
/-
# What the buffers of the attention kernel hold

The formulas of one device, for both batch entries and all four heads at once: scores, masked exponentials, partial
weighted sums, partial normalisers; what the stores leave in an accumulator; the running sums of the three exchange
steps; and the result computed from the last running sum. An accumulator is never stored below row 512 in the columns
from 16 on. Those lanes are exchanged and added like the others, but nothing is ever read from them, so contents are
compared on the remaining lanes only (`Agree`).
-/
module

public import proofs.«01_k».proof.Proof.Mesh

@[expose] public section

noncomputable section

namespace Cert.Attn

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-! ## The operands of a device, as fetched -/

/-- The `x` of a device, as fetched. -/
def X0 (c : Dev nD) : Vec F S2x256x512 .f32 := (win0_0.blk (0 : Fin 1)).view.read (Elt F) (m ((c : Thread nD τ).loc main_arg0))
/-- The `Wq` of a device, as fetched. -/
def X1 (c : Dev nD) : Vec F S512x256 .f32 := (win0_1.blk (0 : Fin 1)).view.read (Elt F) (m ((c : Thread nD τ).loc main_arg1))
/-- A device's block of `K`, as fetched. -/
def X2 (c : Dev nD) : Vec F S2x256x4x64 .f32 := (win0_2.blk (0 : Fin 1)).view.read (Elt F) (m ((c : Thread nD τ).loc main_arg2))
/-- A device's block of `V`, as fetched. -/
def X3 (c : Dev nD) : Vec F S2x256x4x64 .f32 := (win0_3.blk (0 : Fin 1)).view.read (Elt F) (m ((c : Thread nD τ).loc main_arg3))
/-- The `Wo` of a device, as fetched. -/
def X4 (c : Dev nD) : Vec F S256x512 .f32 := (win0_4.blk (0 : Fin 1)).view.read (Elt F) (m ((c : Thread nD τ).loc main_arg4))

/-! ## The formulas of a device -/

section Local
variable (x : Vec F S2x256x512 .f32) (wq : Vec F S512x256 .f32) (k v : Vec F S2x256x4x64 .f32) (wo : Vec F S256x512 .f32)

/-- A batch entry lies within `x`. -/
theorem inb_x (b : Fin 2) : ∀ a, (![b.val, 0, 0] : Fin 3 → ℕ) a + S1x256x512.size a ≤ S2x256x512.size a := by revert b; decide
/-- A batch entry and head lie within a block of keys or values. -/
theorem inb_kv (b : Fin 2) (h : Fin 4) : ∀ a, (![b.val, 0, h.val, 0] : Fin 4 → ℕ) a + S1x256x1x64.size a ≤ S2x256x4x64.size a := by
  revert b h; decide
/-- A head's rows lie within `Wo`. -/
theorem inb_wo (h : Fin 4) : ∀ a, (![64 * h.val, 0] : Fin 2 → ℕ) a + S64x512.size a ≤ S256x512.size a := by revert h; decide
/-- A head's weighted sums lie within an accumulator. -/
theorem inb_ctx (h : Fin 4) : ∀ a, (![256 * (h.val / 2), 64 * (h.val % 2)] : Fin 2 → ℕ) a + S256x64.size a ≤ S576x128.size a := by
  revert h; decide
/-- A quarter of a head's normalisers lies within an accumulator. -/
theorem inb_l (h q : Fin 4) : ∀ a, (![512, 4 * h.val + q.val] : Fin 2 → ℕ) a + S64x1.size a ≤ S576x128.size a := by
  revert h q; decide
/-- A head's columns lie within the projected queries. -/
theorem slices_q (h : Fin 4) : S256x256.Slices ![0, 64 * h.val] S256x64 := by revert h; decide
/-- A quarter of the rows lies within a head's normalisers. -/
theorem slices_l (q : Fin 4) : S256.Slices ![64 * q.val] S64 := by revert q; decide

/-- Batch entry `b` of the activations. -/
def ldX (b : Fin 2) : Vec F S1x256x512 .f32 := fun y => x ((Rect.unit (s := S2x256x512) ![b.val, 0, 0] S1x256x512.size (inb_x b)).toLoadRect.idx y)
/-- Batch entry `b`, head `h` of a key or value block. -/
def ldKV (a : Vec F S2x256x4x64 .f32) (b : Fin 2) (h : Fin 4) : Vec F S1x256x1x64 .f32 :=
  fun y => a ((Rect.unit (s := S2x256x4x64) ![b.val, 0, h.val, 0] S1x256x1x64.size (inb_kv b h)).toLoadRect.idx y)
/-- The rows of the output weights that head `h` meets. -/
def ldWo (h : Fin 4) : Vec F S64x512 .f32 :=
  fun y => wo ((Rect.unit (s := S256x512) ![64 * h.val, 0] S64x512.size (inb_wo h)).toLoadRect.idx y)

/-- The block mask: query row and key row lie in blocks of 64 with the same number. -/
def maskV : IVec S256x256 1 := k0_pay6 k0_pay2 k0_pay3 k0_pay4 k0_pay5
/-- The queries of batch entry `b`, all heads side by side. -/
def qAll (b : Fin 2) : FVec F S256x256 .f32 := k0_pay8 wq (ldX x b)
/-- The queries of head `h`. -/
def qH (b : Fin 2) (h : Fin 4) : FVec F S256x64 .f32 := extractStridedSlice S256x64 ![0, 64 * h.val] (qAll x wq b) (slices_q h)
/-- The masked exponentials of the scores of head `h`. -/
def pH (b : Fin 2) (h : Fin 4) : FVec F S256x256 .f32 :=
  select maskV
    (exp (matmul dot_S256x64_S256x64_S256x256_1_1_0_0_n_n none (qH x wq b h)
      (shapeCast S256x64 (ldKV k b h) shapeCasts_S1x256x1x64_S256x64) (constant S256x256 .f32 0x00000000#32)))
    (broadcast S256x256 (Scalar.ofBits .f32 0x00000000#32 : F .f32))
/-- The partial weighted sums of head `h`. -/
def ctxH (b : Fin 2) (h : Fin 4) : FVec F S256x64 .bf16 :=
  shapeCast S256x64 (truncf .bf16 (matmul dot_S256x256_S256x64_S256x64_1_0_0_1_n_n none (pH x wq k b h)
    (shapeCast S256x64 (ldKV v b h) shapeCasts_S1x256x1x64_S256x64) (constant S256x64 .f32 0x00000000#32)) bitsLt_bf16_f32)
    shapeCasts_S256x64_S256x64
/-- The partial normalisers of head `h`. -/
def lRow (b : Fin 2) (h : Fin 4) : FVec F S256 .bf16 :=
  truncf .bf16 (multiReduction .add [1] S256 (pH x wq k b h) 0x00000000#32 reduces_S256x256_S256 (.inl rfl) rfl) bitsLt_bf16_f32
/-- Rows `64 q … 64 q + 63` of them, as a column. -/
def lH (b : Fin 2) (h q : Fin 4) : FVec F S64x1 .bf16 :=
  shapeCast S64x1 (extractStridedSlice S64 ![64 * q.val] (lRow x wq k b h) (slices_l q)) shapeCasts_S64_S64x1

/-- The store of a head's weighted sums; the store of a quarter of its normalisers. -/
def ctxPiece (h : Fin 4) (w : Vec F S256x64 .bf16) : View.Piece (Elt F) S576x128 .bf16 :=
  ⟨Rect.unit (s := S576x128) ![256 * (h.val / 2), 64 * (h.val % 2)] S256x64.size (inb_ctx h), w⟩
/-- The store of a quarter of a head's normalisers. -/
def lPiece (h q : Fin 4) (w : Vec F S64x1 .bf16) : View.Piece (Elt F) S576x128 .bf16 :=
  ⟨Rect.unit (s := S576x128) ![512, 4 * h.val + q.val] S64x1.size (inb_l h q), w⟩
/-- The five stores of a head, the last first. -/
def headPieces (b : Fin 2) (h : Fin 4) : List (View.Piece (Elt F) S576x128 .bf16) :=
  [lPiece h 3 (lH x wq k b h 3), lPiece h 2 (lH x wq k b h 2), lPiece h 1 (lH x wq k b h 1), lPiece h 0 (lH x wq k b h 0),
    ctxPiece h (ctxH x wq k v b h)]
/-- All stores of a batch entry, the last first. -/
def pieces (b : Fin 2) : List (View.Piece (Elt F) S576x128 .bf16) :=
  headPieces x wq k v b 3 ++ (headPieces x wq k v b 2 ++ (headPieces x wq k v b 1 ++ headPieces x wq k v b 0))

/-- What the stores leave in an accumulator that held zero before. -/
def fill (b : Fin 2) : Vec F S576x128 .bf16 :=
  (Memref.whole cc0_scratch0 : Memref sig .tc .vmem S576x128 .bf16).view.read (Elt F)
    ((Memref.whole cc0_scratch0 : Memref sig .tc .vmem S576x128 .bf16).view.writes (Elt F)
      (constant S576x128 .bf16 0x0000#16 : Vec F S576x128 .bf16) (pieces x wq k v b))

/-! ## The result from a running sum -/

/-- A head's weighted sums, and a quarter of its normalisers, read from an accumulator. -/
def ctxOf (A : Vec F S576x128 .bf16) (h : Fin 4) : Vec F S256x64 .bf16 :=
  fun y => A ((Rect.unit (s := S576x128) ![256 * (h.val / 2), 64 * (h.val % 2)] S256x64.size (inb_ctx h)).toLoadRect.idx y)
/-- A quarter of a head's normalisers, as loaded. -/
def lOf (A : Vec F S576x128 .bf16) (h q : Fin 4) : Vec F S64x1 .bf16 :=
  fun y => A ((Rect.unit (s := S576x128) ![512, 4 * h.val + q.val] S64x1.size (inb_l h q)).toLoadRect.idx y)
/-- The same quarter, through a flat vector and back. -/
def lCol (A : Vec F S576x128 .bf16) (h q : Fin 4) : FVec F S64x1 .bf16 :=
  shapeCast S64x1 (shapeCast S64 (lOf A h q) shapeCasts_S64x1_S64) shapeCasts_S64_S64x1
/-- Weighted sums over normalisers, the normalisers given in quarters. -/
def overCol (w : Vec F S256x64 .bf16) (l₀ l₁ l₂ l₃ : FVec F S64x1 .bf16) : FVec F S256x64 .f32 :=
  divf (extf .f32 w bitsLt_bf16_f32)
    (broadcastTo S256x64 (extf .f32 (concatenate S256x1 0
      [⟨S64x1, l₀⟩, ⟨S64x1, l₁⟩, ⟨S64x1, l₂⟩, ⟨S64x1, l₃⟩]
      concatenates_S64x1_S64x1_S64x1_S64x1_S256x1_d0) bitsLt_bf16_f32) broadcasts_S256x1_S256x64)
/-- A head's attention output. -/
def quot (A : Vec F S576x128 .bf16) (h : Fin 4) : FVec F S256x64 .f32 :=
  overCol (ctxOf A h) (lCol A h 0) (lCol A h 1) (lCol A h 2) (lCol A h 3)
/-- A head's contribution to the result. -/
def proj (A : Vec F S576x128 .bf16) (h : Fin 4) : FVec F S256x512 .f32 :=
  matmul dot_S256x64_S64x512_S256x512_1_0_0_1_n_n none (quot A h)
    (shapeCast S64x512 (ldWo wo h) shapeCasts_S64x512_S64x512) (constant S256x512 .f32 0x00000000#32)
/-- One batch entry of the result. -/
def outB (A : Vec F S576x128 .bf16) : FVec F S1x256x512 .f32 :=
  shapeCast S1x256x512 (addf (addf (addf (addf (broadcast S256x512 (Scalar.ofBits .f32 0x00000000#32 : F .f32)) (proj wo A 0)) (proj wo A 1))
    (proj wo A 2)) (proj wo A 3)) shapeCasts_S256x512_S1x256x512

/-- The two stores of the result, the last first. -/
def outPiece (b : Fin 2) (w : Vec F S1x256x512 .f32) : View.Piece (Elt F) S2x256x512 .f32 :=
  ⟨Rect.unit (s := S2x256x512) ![b.val, 0, 0] S1x256x512.size (inb_x b), w⟩
end Local

/-! ## The running sums -/

/-- The running sum of batch entry `b` on device `c` before step `i`: after `i` exchanges it holds the sum over the
    `2 ^ i` devices whose numbers differ from `c` in the bits below `i`. -/
def SP (b : Fin 2) : ℕ → Dev nD → Vec F S576x128 .bf16
  | 0, c => fill (X0 m c) (X1 m c) (X2 m c) (X3 m c) b
  | i + 1, c => addf (SP b i c) (SP b i (pr (Fin.ofNat 3 i) c))

/-- What transfer `t` of device `c` carries. -/
def spec (t : Fin 6) (c : Dev nD) : Vec F S576x128 .bf16 := SP m (side t) (step t).val c

/-- The result of device `c`. -/
def outAt (c : Dev nD) : Vec F S2x256x512 .f32 :=
  (Memref.whole cc0_stg5_0 : Memref sig .tc .vmem S2x256x512 .f32).view.writes (Elt F) (X0 m c)
    [outPiece 1 (outB (X4 m c) (SP m 1 3 c)), outPiece 0 (outB (X4 m c) (SP m 0 3 c))]

/-! ## Contents compared where they are read -/

/-- The lanes the kernel stores and reads. -/
def Lane (y : S576x128.Idx) : Prop := (y (0 : Fin 2)).val < 512 ∨ (y (1 : Fin 2)).val < 16
/-- Equal on those lanes. -/
def Agree (A B : Vec F S576x128 .bf16) : Prop := ∀ y, Lane y → A y = B y

omit [FloatOps F] in
/-- Contents agree with themselves. -/
theorem Agree.refl (A : Vec F S576x128 .bf16) : Agree A A := fun _ _ => rfl
omit [FloatOps F] in
/-- Agreement goes both ways. -/
theorem Agree.symm {A B : Vec F S576x128 .bf16} (h : Agree A B) : Agree B A := fun y hy => (h y hy).symm
omit [FloatOps F] in
/-- Agreement passes on. -/
theorem Agree.trans {A B C : Vec F S576x128 .bf16} (h : Agree A B) (h' : Agree B C) : Agree A C := fun y hy => (h y hy).trans (h' y hy)
/-- Adding lane by lane respects it. -/
theorem Agree.add {A A' B B' : Vec F S576x128 .bf16} (h : Agree A A') (h' : Agree B B') : Agree (addf A B) (addf A' B') :=
  fun y hy => by
    show FloatOps.addf (A y) (B y) = FloatOps.addf (A' y) (B' y)
    rw [h y hy, h' y hy]

/-- Every lane read is covered by a store. -/
theorem pieces_cover (x : Vec F S2x256x512 .f32) (wq : Vec F S512x256 .f32) (k v : Vec F S2x256x4x64 .f32) (b : Fin 2)
    (y : S576x128.Idx) (hy : Lane y) : ∃ p ∈ pieces x wq k v b, y ∈ p.1.set := by
  have h0 : (y (0 : Fin 2)).val < 576 := (y (0 : Fin 2)).isLt
  have h1 : (y (1 : Fin 2)).val < 128 := (y (1 : Fin 2)).isLt
  by_cases hr : (y (0 : Fin 2)).val < 512
  · have key : ∀ h : Fin 4, h.val = 2 * ((y (0 : Fin 2)).val / 256) + (y (1 : Fin 2)).val / 64 →
        y ∈ (ctxPiece (F := F) h (ctxH x wq k v b h)).1.set := fun h hh => by
      refine (Rect.mem_set_unit (inb := inb_ctx h)).mpr (Fin.forall_fin_two.mpr ⟨?_, ?_⟩)
      · show 256 * (h.val / 2) ≤ (y (0 : Fin 2)).val ∧ (y (0 : Fin 2)).val < 256 * (h.val / 2) + 256
        omega
      · show 64 * (h.val % 2) ≤ (y (1 : Fin 2)).val ∧ (y (1 : Fin 2)).val < 64 * (h.val % 2) + 64
        omega
    have hlt : 2 * ((y (0 : Fin 2)).val / 256) + (y (1 : Fin 2)).val / 64 < 4 := by omega
    have mem : ∀ h : Fin 4, ctxPiece (F := F) h (ctxH x wq k v b h) ∈ pieces x wq k v b := fun h => by
      fin_cases h <;> simp [pieces, headPieces]
    exact ⟨_, mem ⟨_, hlt⟩, key ⟨_, hlt⟩ rfl⟩
  · have hc : (y (1 : Fin 2)).val < 16 := hy.resolve_left hr
    have key : ∀ h q : Fin 4, 4 * h.val + q.val = (y (1 : Fin 2)).val →
        y ∈ (lPiece (F := F) h q (lH x wq k b h q)).1.set := fun h q hh => by
      refine (Rect.mem_set_unit (inb := inb_l h q)).mpr (Fin.forall_fin_two.mpr ⟨?_, ?_⟩)
      · show 512 ≤ (y (0 : Fin 2)).val ∧ (y (0 : Fin 2)).val < 512 + 64
        omega
      · show 4 * h.val + q.val ≤ (y (1 : Fin 2)).val ∧ (y (1 : Fin 2)).val < 4 * h.val + q.val + 1
        omega
    have mem : ∀ h q : Fin 4, lPiece (F := F) h q (lH x wq k b h q) ∈ pieces x wq k v b := fun h q => by
      fin_cases h <;> fin_cases q <;> simp [pieces, headPieces]
    exact ⟨_, mem ⟨(y (1 : Fin 2)).val / 4, by omega⟩ ⟨(y (1 : Fin 2)).val % 4, by omega⟩, key _ _ (by show 4 * (_ / 4) + _ % 4 = _; omega)⟩

/-- The stores of a batch entry leave the same on the lanes read, whatever buffer they went to and whatever it held. -/
theorem agree_fill (x : Vec F S2x256x512 .f32) (wq : Vec F S512x256 .f32) (k v : Vec F S2x256x4x64 .f32) (b : Fin 2)
    {κ : Kind} {sp : Space} (w : View sig κ sp S576x128 .bf16) (f : w.ty.Contents (Elt F)) :
    Agree (w.read (Elt F) (w.writes (Elt F) f (pieces x wq k v b))) (fill x wq k v b) :=
  fun y hy => View.read_writes_apply_eq w f _ _ y _ (pieces_cover x wq k v b y hy)

omit [FloatOps F] in
/-- What is read of a head's weighted sums, or of its normalisers, depends on the lanes read only. -/
theorem ctxOf_congr {A B : Vec F S576x128 .bf16} (hA : Agree A B) (h : Fin 4) : ctxOf A h = ctxOf B h := by
  funext y
  refine hA _ (Or.inl ?_)
  have hy : (y (0 : Fin 2)).val < 256 := (y (0 : Fin 2)).isLt
  show 256 * (h.val / 2) + 1 * (y (0 : Fin 2)).val < 512
  have := h.isLt; omega
omit [FloatOps F] in
/-- Where contents agree the loaded normalisers are equal. -/
theorem lOf_congr {A B : Vec F S576x128 .bf16} (hA : Agree A B) (h q : Fin 4) : lOf A h q = lOf B h q := by
  funext y
  refine hA _ (Or.inr ?_)
  have hy : (y (1 : Fin 2)).val < 1 := (y (1 : Fin 2)).isLt
  show 4 * h.val + q.val + 1 * (y (1 : Fin 2)).val < 16
  have := h.isLt; have := q.isLt; omega
/-- So does the result. -/
theorem outB_congr (wo : Vec F S256x512 .f32) {A B : Vec F S576x128 .bf16} (hA : Agree A B) : outB wo A = outB wo B := by
  unfold outB proj quot lCol
  simp only [ctxOf_congr hA, lOf_congr hA]

end Cert.Attn
-- ==== Proof.Schedule.lean ====
/-
# The agreement between the devices

Each device has thirteen semaphore cells. On the starting cell each partner counts one and hands over the two slots of
its landing buffers that this device will write; on a departure cell a transfer counts its credit when it has left and
hands back the accumulator; on an arrival cell it counts its credit when it has landed and hands over the filled slot,
whose contents are the sender's running sum. What a device has promised to others, and the order in which it may wait,
are fixed here as well: transfers are waited for in the order of their start.
-/
module

public import proofs.«01_k».proof.Proof.Spec

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the agreement on the cells. -/
abbrev UB : Type := URounds (GSem nD τ sig) (Fin 3)
/-- The ghost state: the call's own, and that of the agreement. -/
abbrev UU : Type := UR sig nD τ × UB

local notation "𝕄" => MT nD τ sig Unit (Elt F) ℕ UU ℕ

/-- Where the call's own ghost state lies in the whole. -/
abbrev EP : Emb (UR sig nD τ) (MT nD τ sig Unit (Elt F) ℕ UU ℕ) := embL
/-- Where the agreement's ghost state lies in the whole. -/
abbrev ER : Emb UB (MT nD τ sig Unit (Elt F) ℕ UU ℕ) := embR

variable (m : (ℓ : Loc nD τ sig) → Buf (Elt F) ℓ)

/-! ## What is handed over -/

/-- The accumulator of batch entry `x` on device `c`, holding `A`. -/
def accAt (x : Fin 2) (c : Dev nD) (A : Vec F S576x128 .bf16) : sProp 𝕄 := owns (c : Thread nD τ) (acc x) fullShare A
/-- The slot of transfer `t` on device `c`, holding `A`. -/
def slotAt (t : Fin 6) (c : Dev nD) (A : Vec F S576x128 .bf16) : sProp 𝕄 := owns (c : Thread nD τ) (dstM t) fullShare A

/-- The two transfers of a step. -/
def tA : Fin 3 → Fin 6 | 0 => 0 | 1 => 2 | 2 => 4
/-- The step's transfer of batch entry 1. -/
def tB : Fin 3 → Fin 6 | 0 => 1 | 1 => 3 | 2 => 5

/-- Handed to device `d` by its partner of step `i`: the partner's two slots of that step. -/
def barPay (i : Fin 3) (d : Dev nD) : sProp 𝕄 :=
  iprop((∃ A, slotAt (F := F) (tA i) (pr i d) A) ∗ (∃ A, slotAt (F := F) (tB i) (pr i d) A))
/-- Handed back when transfer `t` of device `d` has left: the accumulator, as sent on the lanes read. -/
def sndPay (t : Fin 6) (d : Dev nD) : sProp 𝕄 := iprop(∃ A, ⌜Agree A (spec m t d)⌝ ∗ accAt (side t) d A)
/-- Handed over when transfer `t` has landed on device `d`: the slot, holding what the partner sent. -/
def rcvPay (t : Fin 6) (d : Dev nD) : sProp 𝕄 := iprop(∃ A, ⌜Agree A (spec m t (pr (step t) d))⌝ ∗ slotAt t d A)

omit [FloatOps F] in
instance accAt_storable (x c A) : BI.Storable (upEmb : UEmb _ 𝕄) (accAt (F := F) x c A) := by unfold accAt; infer_instance
omit [FloatOps F] in
instance slotAt_storable (t c A) : BI.Storable (upEmb : UEmb _ 𝕄) (slotAt (F := F) t c A) := by unfold slotAt; infer_instance
omit [FloatOps F] in
instance barPay_storable (i d) : BI.Storable (upEmb : UEmb _ 𝕄) (barPay (F := F) i d) := by unfold barPay; infer_instance
instance sndPay_storable (t d) : BI.Storable (upEmb : UEmb _ 𝕄) (sndPay m t d) := by unfold sndPay; infer_instance
instance rcvPay_storable (t d) : BI.Storable (upEmb : UEmb _ 𝕄) (rcvPay m t d) := by unfold rcvPay; infer_instance

/-! ## The schedule -/

/-- Who counts on a cell: three partners on a starting cell, one transfer on each of the others. -/
def dutiesOf : Use → Finset (Fin 3)
  | .bar => Finset.univ | .snd _ => {0} | .rcv _ => {0} | .other => ∅
/-- By how much. -/
def amountOf : Use → ℕ
  | .bar => 1 | .snd _ => N | .rcv _ => N | .other => N
/-- Handing over what. -/
def payOf (d : Dev nD) (i : Fin 3) : Use → sProp 𝕄
  | .bar => barPay i d | .snd t => sndPay m t d | .rcv t => rcvPay m t d | .other => iprop(emp)

/-- Every cell is used for one round. -/
def plan : Rounds.Schedule (GSem nD τ sig) (Fin 3) 𝕄 where
  duties g r := if r = 0 ∧ g.1.2 = .tc then dutiesOf (use g.2) else ∅
  unitless _ := False
  amount g _ _ := amountOf (use g.2)
  payload g _ d := payOf m g.1.1 d (use g.2)
  amount_pos g _ _ _ := by
    cases use g.2
    · exact Nat.one_pos
    all_goals exact N_pos

instance plan_payload_storable (g : GSem nD τ sig) (r : ℕ) (d : Fin 3) :
    BI.Storable (upEmb : UEmb _ 𝕄) ((plan (F := F) m).payload g r d) := by
  show BI.Storable upEmb (payOf m g.1.1 d (use g.2))
  cases use g.2 <;> (unfold payOf; infer_instance)

section Sched
variable (t : Fin 6) (c : Dev nD)

/-- A starting cell has three duties. -/
theorem duties_bar : (plan (F := F) m).duties (barCell c) 0 = Finset.univ := by dsimp only [plan]; exact if_pos ⟨rfl, rfl⟩
/-- A departure cell has one duty. -/
theorem duties_snd : (plan (F := F) m).duties (sndCell t c) 0 = {0} := by
  dsimp only [plan]; rw [if_pos ⟨rfl, rfl⟩]
  show dutiesOf (use (.dma (sndS t))) = _
  rw [use_snd]; rfl
/-- An arrival cell has one duty. -/
theorem duties_rcv : (plan (F := F) m).duties (rcvCell t c) 0 = {0} := by
  dsimp only [plan]; rw [if_pos ⟨rfl, rfl⟩]
  show dutiesOf (use (.dma (rcvS t))) = _
  rw [use_rcv]; rfl
/-- No cell has a duty after its first round. -/
theorem duties_later (g : GSem nD τ sig) : ∀ r, 1 ≤ r → (plan (F := F) m).duties g r = ∅ :=
  fun r hr => by dsimp only [plan]; exact if_neg fun h => by have := h.1; omega

/-- A duty on a starting cell counts one. -/
theorem amount_bar (i : Fin 3) : (plan (F := F) m).amount (barCell c) 0 i = 1 := rfl
/-- A duty on a departure cell counts the credit of a transfer. -/
theorem amount_snd (i : Fin 3) : (plan (F := F) m).amount (sndCell t c) 0 i = N := by
  show amountOf (use (.dma (sndS t))) = _
  rw [use_snd]; rfl
/-- A duty on an arrival cell counts the credit of a transfer. -/
theorem amount_rcv (i : Fin 3) : (plan (F := F) m).amount (rcvCell t c) 0 i = N := by
  show amountOf (use (.dma (rcvS t))) = _
  rw [use_rcv]; rfl

/-- A starting cell expects three counts. -/
theorem expect_bar : (plan (F := F) m).expect (barCell c) 0 = 3 := by
  unfold Schedule.expect Schedule.amountOf
  rw [duties_bar, Finset.sum_congr rfl fun d _ => amount_bar m c d, Finset.sum_const, Finset.card_univ, Fintype.card_fin, smul_eq_mul]
/-- A departure cell expects the credit of a transfer. -/
theorem expect_snd : (plan (F := F) m).expect (sndCell t c) 0 = N := by
  unfold Schedule.expect Schedule.amountOf; rw [duties_snd, Finset.sum_singleton, amount_snd]
/-- An arrival cell expects the credit of a transfer. -/
theorem expect_rcv : (plan (F := F) m).expect (rcvCell t c) 0 = N := by
  unfold Schedule.expect Schedule.amountOf; rw [duties_rcv, Finset.sum_singleton, amount_rcv]

/-- What a duty on a starting cell hands over: the partner's two slots of a step. -/
theorem payload_bar (i : Fin 3) : (plan (F := F) m).payload (barCell c) 0 i = barPay i c := rfl
/-- What a departure hands back: the accumulator. -/
theorem payload_snd (i : Fin 3) : (plan (F := F) m).payload (sndCell t c) 0 i = sndPay m t c := by
  show payOf m c i (use (.dma (sndS t))) = _
  rw [use_snd]; rfl
/-- What an arrival hands over: the slot, filled. -/
theorem payload_rcv (i : Fin 3) : (plan (F := F) m).payload (rcvCell t c) 0 i = rcvPay m t c := by
  show payOf m c i (use (.dma (rcvS t))) = _
  rw [use_rcv]; rfl

/-- A starting cell, waited for in full, hands over all three partners' slots. -/
theorem rest_bar : bigSep ((plan (F := F) m).duties (barCell c) 0 \ ∅) (fun d => (plan (F := F) m).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons,
    bigSepL_singleton]
  rfl
/-- What a wait on a departure cell collects is the accumulator. -/
theorem rest_snd : bigSep ((plan (F := F) m).duties (sndCell t c) 0 \ ∅) (fun d => (plan (F := F) m).payload (sndCell t c) 0 d)
    = sndPay m t c := by
  rw [Finset.sdiff_empty, duties_snd, bigSep_singleton, payload_snd]
/-- What a wait on an arrival cell collects is the filled slot. -/
theorem rest_rcv : bigSep ((plan (F := F) m).duties (rcvCell t c) 0 \ ∅) (fun d => (plan (F := F) m).payload (rcvCell t c) 0 d)
    = rcvPay m t c := by
  rw [Finset.sdiff_empty, duties_rcv, bigSep_singleton, payload_rcv]
end Sched

/-! ## Promises and levels -/

/-- The transfer still to start when `n + 1` remain: the `n` last ones come after it. -/
def tOf (n : ℕ) : Fin 6 := ⟨5 - n, by omega⟩
/-- What a device owes when its last `n` transfers have not started: their credits at the receivers. -/
def OF (c : Dev nD) : ℕ → CellTallies nD τ sig Unit
  | 0 => 0
  | n + 1 => OF c n + tallyAt (rcvCell (tOf n) (pr (step (tOf n)) c)) () N
/-- Before that, also one count at each partner's starting cell; the partner of step 0 is told first. -/
def OB1 (c : Dev nD) : CellTallies nD τ sig Unit := OF c 6 + tallyAt (barCell (pr 2 c)) () 1
/-- With the partner of step 1 not told either. -/
def OB2 (c : Dev nD) : CellTallies nD τ sig Unit := OB1 c + tallyAt (barCell (pr 1 c)) () 1
/-- With no partner told: all a device owes at the start. -/
def OB3 (c : Dev nD) : CellTallies nD τ sig Unit := OB2 c + tallyAt (barCell (pr 0 c)) () 1

/-- The levels are of the semaphores of the devices' cores. -/
def L (g : GSem nD τ sig) : Finset Unit := if g.1.2 = .tc then {()} else ∅
/-- Arrival cells are ordered by the start of their transfers, above the starting cell, above the others. -/
def lvS : Use → ℕ
  | .bar => 1 | .rcv t => 2 + t.val | _ => 0
/-- The level of a semaphore. -/
def lv (g : GSem nD τ sig) (_ : Unit) : ℕ := lvS (use g.2)

/-- A semaphore that is not of a core has no level. -/
theorem L_of_ne (g : GSem nD τ sig) (h : g.1.2 ≠ .tc) : L g = ∅ := if_neg h
/-- A core's semaphore has a level. -/
theorem L_tc (c : Dev nD) (sm : SemLoc sig) : L ((c : Thread nD τ), sm) = {()} := if_pos rfl

/-- What the last `n` transfers owe is owed at their arrival cells. -/
theorem OF_pos {c : Dev nD} {g : GSem nD τ sig} {u : Unit} : ∀ n, n ≤ 6 → 0 < OF c n g u →
    ∃ t : Fin 6, 6 ≤ t.val + n ∧ g = rcvCell t (pr (step t) c)
  | 0, _, h => absurd h (Nat.lt_irrefl 0)
  | n + 1, hn, h => by
    unfold OF at h
    rw [Pi.add_apply, Finsupp.add_apply, tallyAt_apply] at h
    by_cases hg : g = rcvCell (tOf n) (pr (step (tOf n)) c)
    · exact ⟨tOf n, by show 6 ≤ 5 - n + (n + 1); omega, hg⟩
    · rw [if_neg (fun h' => hg h'.1), Nat.add_zero] at h
      obtain ⟨t, ht, e⟩ := OF_pos n (by omega) h
      exact ⟨t, by omega, e⟩

/-- All that is owed is owed at the partners' arrival cells and starting cells. -/
theorem OB3_pos {c : Dev nD} {g : GSem nD τ sig} {u : Unit} (h : 0 < OB3 c g u) :
    (∃ t : Fin 6, g = rcvCell t (pr (step t) c)) ∨ ∃ i : Fin 3, g = barCell (pr i c) := by
  unfold OB3 OB2 OB1 at h
  rw [Pi.add_apply, Finsupp.add_apply, Pi.add_apply, Finsupp.add_apply, Pi.add_apply, Finsupp.add_apply, tallyAt_apply, tallyAt_apply,
    tallyAt_apply] at h
  by_cases h0 : g = barCell (pr 0 c)
  · exact .inr ⟨0, h0⟩
  by_cases h1 : g = barCell (pr 1 c)
  · exact .inr ⟨1, h1⟩
  by_cases h2 : g = barCell (pr 2 c)
  · exact .inr ⟨2, h2⟩
  rw [if_neg (fun h' => h2 h'.1), if_neg (fun h' => h1 h'.1), if_neg (fun h' => h0 h'.1)] at h
  simp only [Nat.add_zero] at h
  obtain ⟨t, -, e⟩ := OF_pos 6 (Nat.le_refl 6) h
  exact .inl ⟨t, e⟩

/-- The level of an arrival cell. -/
theorem lv_rcv (t : Fin 6) (c : Dev nD) (u : Unit) : lv (rcvCell t c) u = 2 + t.val := by
  show lvS (use (.dma (rcvS t))) = _
  rw [use_rcv]; rfl
/-- The level of a starting cell. -/
theorem lv_bar (c : Dev nD) (u : Unit) : lv (barCell c) u = 1 := rfl

omit [FloatOps F] in
/-- A wait while the last `n` transfers have not started is allowed on any semaphore below all of their arrivals. -/
theorem mayWait_OF (c : Dev nD) (sm : SemLoc sig) (n : ℕ) (hn : n ≤ 6) (h : ∀ t : Fin 6, 6 ≤ t.val + n → lvS (use sm) < 2 + t.val) :
    (levAts L lv : sProp 𝕄) ⊢ MayWait (c : Thread nD τ) sm () (OF c n) :=
  MayOwe.of_cut (L := L) (lev := lv) (lvS (use sm)) (fun p hp => by rw [Finset.mem_singleton.mp hp, L_tc]; exact Finset.mem_singleton_self _)
    (fun g u hg => by obtain ⟨t, -, rfl⟩ := OF_pos n hn hg; exact Finset.mem_singleton_self _)
    (fun p hp => by rw [Finset.mem_singleton.mp hp]; exact Nat.le_refl _)
    (fun g u hg => by obtain ⟨t, ht, rfl⟩ := OF_pos n hn hg; rw [lv_rcv]; exact h t ht)

omit [FloatOps F] in
/-- The operand and result transfers of the call are below everything. -/
theorem mayWait_stage (c : Dev nD) (q : DmaSem sig) (hq : use (.dma q) = .other) (O : CellTallies nD τ sig Unit) (hO : O = OB3 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB3_pos hg with ⟨t, rfl⟩ | ⟨i, rfl⟩ <;> exact Finset.mem_singleton_self _)
      (fun p hp => by
        rw [Finset.mem_singleton.mp hp]
        show lvS (use (.dma q)) ≤ 0
        rw [hq]; exact Nat.le_refl _)
      (fun g u hg => by
        rcases OB3_pos hg with ⟨t, rfl⟩ | ⟨i, rfl⟩
        · rw [lv_rcv]; omega
        · rw [lv_bar]; omega)
  · rw [MayWait_zero]; iintro -; iempintro

end Cert.Attn
-- ==== Proof.Steps.lean ====
/-
# One transfer, one wait

The rules by which a device starts transfer `t`, waits for it to have left, and waits for its partner's transfer to have
landed, in the terms of the agreement between the devices.
-/
module

public import proofs.«01_k».proof.Proof.Schedule

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop needs a measure. -/
abbrev 𝒱₀ : Variants := Variants.none

variable (K : Dev nD × Cell → ℕ)

/-- The cells' invariant, under the names `K`. -/
abbrev inv (ck : Dev nD × Cell) : sProp 𝕄 := cellInv ER (plan (F := F) m) (K ck) (kcell ck)

/-- The record of a departure cell. -/
theorem inv_S (t : Fin 6) (c : Dev nD) : inv m K (c, kS t) = cellInv ER (plan (F := F) m) (K (c, kS t)) (sndCell t c) := by
  show cellInv ER (plan (F := F) m) (K (c, kS t)) (kcell (c, kS t)) = _
  rw [kcell_S]
/-- The record of an arrival cell. -/
theorem inv_R (t : Fin 6) (c : Dev nD) : inv m K (c, kR t) = cellInv ER (plan (F := F) m) (K (c, kR t)) (rcvCell t c) := by
  show cellInv ER (plan (F := F) m) (K (c, kR t)) (kcell (c, kR t)) = _
  rw [kcell_R]

omit [FloatOps F] in
/-- A buffer whose contents read as a value is held at that value. -/
theorem owns_intro (c : Dev nD) (M : Memref sig .tc .vmem S576x128 .bf16) (f : Buf (Elt F) (M.view.loc (c : Thread nD τ))) (A : Vec F S576x128 .bf16)
    (h : M.view.read (Elt F) f = A) :
    (M.view.loc (c : Thread nD τ) ↦[M.view.set]{fullShare} f : sProp 𝕄) ⊢ owns (c : Thread nD τ) M fullShare A := by
  unfold owns
  iintro H
  iexists f
  isplitr
  · ipureintro; exact h
  iexact H

/-- Starting transfer `t`, the next of the `k + 1` outstanding ones: the accumulator and the partner's slot are given up,
    the promise is discharged, and a credit for the departure is kept. -/
theorem wp_send (t : Fin 6) (k : ℕ) (ht : tOf k = t) (c n : Dev nD) (hn : n = pr (step t) c)
    {src dst : Memref sig .tc .vmem S576x128 .bf16} (hs : src = srcM t) (hd : dst = dstM t) {qS qR : DmaSem sig} (hqS : qS = sndS t) (hqR : qR = rcvS t)
    {hsc : (dst : Memref sig (Dev.tc n : Thread nD τ).2.kind .vmem S576x128 .bf16).view.ref.isScScratch = false}
    {hsrc : src.view.WordExact} {hdst : (dst : Memref sig .tc .vmem S576x128 .bf16).view.WordExact}
    {hsem : DmaTarget.Typed .vmem (.dma qR) (.remote (Dev.tc n : Thread nD τ) (dst : Memref sig .tc .vmem S576x128 .bf16) (.dma qS) hsc)}
    {α : Type} {Q : α → sProp 𝕄} {kk : PUnit → Prog (TpuEff nD τ sig (Elt F) Λ₀ .tc) α}
    (A : Vec F S576x128 .bf16) (hA : Agree A (spec m t c)) (W : Waits sig Unit) :
    iprop(inv m K (c, kS t) ∗ inv m K (pr (step t) c, kR t)
        ∗ accAt (side t) c A ∗ (∃ B, slotAt (F := F) t (pr (step t) c) B) ∗ owes (c : Thread nD τ) (OF c (k + 1)) W
        ∗ dutyTok ER (sndCell t c) 0 0 ∗ reached ER (sndCell t c) 0 ∗ dutyTok ER (rcvCell t (pr (step t) c)) 0 0 ∗ reached ER (rcvCell t (pr (step t) c)) 0)
      ⊢ iprop(((cred (tallyAt (sndCell t c) () N) ∗ owes (c : Thread nD τ) (OF c k) W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma qS) hsc) (.dma qR) hsrc hdst hsem) kk) Q) := by
  subst hn hs hd hqS hqR
  rw [inv_S, inv_R]
  unfold accAt slotAt owns
  iintro ⟨#H1, #H2, ⟨%f, %hf, Hf⟩, ⟨%B, %g, %hg, Hg⟩, HO, Ht1, #Hr1, Ht2, #Hr2⟩
  iapply (Rounds.wp_send_pointsTo 𝒱₀ ER (plan (F := F) m) (c : Thread nD τ) none (κ₁ := K (c, kS t)) (κ₂ := K (pr (step t) c, kR t))
    (r₁ := 0) (r₂ := 0) (d₁ := 0) (d₂ := 0) (fd := g) (fs := f)
    (by rw [duties_snd m t c]; exact Finset.mem_singleton_self _) (by rw [duties_rcv m t (pr (step t) c)]; exact Finset.mem_singleton_self _)
    () () N (by exact N_slot (side t) (step t)) (amount_snd m t c 0) (amount_rcv m t (pr (step t) c) 0) (O₀ := OF c (k + 1)) (OF c k)
    (by show OF c k + tallyAt (rcvCell (tOf k) (pr (step (tOf k)) c)) () N = _; rw [ht]) (W := W)
    (by
      rw [payload_snd]; unfold sndPay accAt
      iintro H
      iexists A
      isplitr
      · ipureintro; exact hA
      iapply (owns_intro c _ f A hf); iexact H)
    (by
      rw [payload_rcv]; unfold rcvPay slotAt
      rw [pr_pr]
      iintro H
      iexists A
      isplitr
      · ipureintro; exact hA
      iapply (owns_intro (pr (step t) c) _ _ A ((View.read_write_univ _ _).trans hf)); iexact H)) $$ [Hf Hg HO Ht1 Ht2]
  isplitr; · iexact H1
  isplitr; · iexact H2
  isplitl [Hf]; · iexact Hf
  isplitl [Hg]; · iexact Hg
  isplitl [HO]; · iexact HO
  isplitl [Ht1]; · iexact Ht1
  isplitr; · iexact Hr1
  isplitl [Ht2]; · iexact Ht2
  iexact Hr2

/-- Waiting until transfer `t` has left: the accumulator comes back, unchanged on the lanes read. -/
theorem wp_wait_snd (t : Fin 6) (k : ℕ) (hk : k ≤ 6) (c : Dev nD) {q : DmaSem sig} (hq : q = sndS t) (W : Waits sig Unit)
    {src dst : Memref sig .tc .vmem S576x128 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(inv m K (c, kS t) ∗ cred (tallyAt (sndCell t c) () N) ∗ owes (c : Thread nD τ) (OF c k) W
        ∗ levAts L lv ∗ atPos ER (sndCell t c) 0 ∅ 0)
      ⊢ iprop(((owes (c : Thread nD τ) (OF c k) (insert (SemLoc.dma (sndS t), ()) W) ∗ atPos ER (sndCell t c) (0 + 1) ∅ 0
            ∗ sndPay m t c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  rw [inv_S]
  iintro ⟨#HI, Hc, HO, #Hl, Hat⟩ Hk
  iapply (Rounds.wp_wait_rest_token 𝒱₀ ER (plan (F := F) m) (c : Thread nD τ) none (κ := K (c, kS t))
      (wpE_waitDma2_eq 𝒱₀ (c : Thread nD τ) none Set.univ) (Set.mem_univ _) () (O := OF c k) (W := W) (R := 0) (m := 0) (T := ∅)
      (by rw [Nat.zero_add, hN, expect_snd m t c])) $$ [Hc HO Hat]
  · isplitr; · iexact HI
    isplitl [Hc]; · iexact Hc
    isplitl [HO]; · iexact HO
    isplitr
    · iapply (mayWait_OF (F := F) c (.dma (sndS t)) k hk (fun t' _ => by rw [use_snd]; show 0 < 2 + t'.val; omega)); iexact Hl
    iexact Hat
  iintro ⟨HO, Hat, -, Hpay⟩
  iapply Hk
  isplitl [HO]; · iexact HO
  isplitl [Hat]; · iexact Hat
  iapply (Entails.of_eq (rest_snd m t c)); iexact Hpay

/-- Waiting until the partner's transfer `t` has landed, its own transfer `t` started before: the slot comes back,
    holding the partner's running sum on the lanes read. -/
theorem wp_wait_rcv (t : Fin 6) (k : ℕ) (hk : t.val + k < 6) (c : Dev nD) {q : DmaSem sig} (hq : q = rcvS t) (W : Waits sig Unit)
    {src dst : Memref sig .tc .vmem S576x128 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(inv m K (c, kR t) ∗ cred (tallyAt (rcvCell t c) () N) ∗ owes (c : Thread nD τ) (OF c k) W
        ∗ levAts L lv ∗ atPos ER (rcvCell t c) 0 ∅ 0)
      ⊢ iprop(((owes (c : Thread nD τ) (OF c k) (insert (SemLoc.dma (rcvS t), ()) W) ∗ atPos ER (rcvCell t c) (0 + 1) ∅ 0
            ∗ rcvPay m t c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  rw [inv_R]
  iintro ⟨#HI, Hc, HO, #Hl, Hat⟩ Hk
  iapply (Rounds.wp_wait_rest_token 𝒱₀ ER (plan (F := F) m) (c : Thread nD τ) none (κ := K (c, kR t))
      (wpE_waitDma2_eq 𝒱₀ (c : Thread nD τ) none Set.univ) (Set.mem_univ _) () (O := OF c k) (W := W) (R := 0) (m := 0) (T := ∅)
      (by rw [Nat.zero_add, hN, expect_rcv m t c])) $$ [Hc HO Hat]
  · isplitr; · iexact HI
    isplitl [Hc]; · iexact Hc
    isplitl [HO]; · iexact HO
    isplitr
    · iapply (mayWait_OF (F := F) c (.dma (rcvS t)) k (by omega) (fun t' h' => by rw [use_rcv]; show 2 + t.val < 2 + t'.val; omega)); iexact Hl
    iexact Hat
  iintro ⟨HO, Hat, -, Hpay⟩
  iapply Hk
  isplitl [HO]; · iexact HO
  isplitl [Hat]; · iexact Hat
  iapply (Entails.of_eq (rest_rcv m t c)); iexact Hpay

end Cert.Attn
-- ==== Proof.Moves.lean ====
/-
# Moves of the body

The steps of a device in the terms of the agreement, each with all the records of the thirteen cells of every device at
hand: starting a transfer, waiting for it, reading and rewriting an accumulator, reading a slot; and a landing buffer
taken apart into its three slots and put together again.
-/
module

public import proofs.«01_k».proof.Proof.Steps
public import Idealize.ShloMosaic.Lib.Ring
public import Idealize.ShloMosaic.Lib.Pipeline.Value

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Cell → ℕ)

/-- What every device knows: the agreement at every cell, and that every cell has begun its round. -/
def records : sProp 𝕄 :=
  iprop((bigSep Finset.univ fun ck : Dev nD × Cell => cellInv ER (plan (F := F) m) (K ck) (kcell ck))
    ∗ bigSep Finset.univ fun ck : Dev nD × Cell => reached ER (kcell ck) 0)

instance records_persistent : BI.Persistent (records m K) := by unfold records; infer_instance

/-- The records of all cells hold each cell's record. -/
theorem records_inv (ck : Dev nD × Cell) : records m K ⊢ inv m K ck :=
  sep_elim_left.trans (bigSep_elim (Finset.mem_univ ck))
/-- The records show that each cell has reached its first round. -/
theorem records_reached (ck : Dev nD × Cell) : records m K ⊢ reached ER (kcell ck) 0 :=
  sep_elim_right.trans (bigSep_elim (Finset.mem_univ ck))
/-- The records show that a departure cell has reached its first round. -/
theorem records_S (t : Fin 6) (c : Dev nD) : records m K ⊢ reached ER (sndCell t c) 0 := by
  rw [← kcell_S]; exact records_reached m K _
/-- The records show that an arrival cell has reached its first round. -/
theorem records_R (t : Fin 6) (c : Dev nD) : records m K ⊢ reached ER (rcvCell t c) 0 := by
  rw [← kcell_R]; exact records_reached m K _

/-- Starting transfer `t`. -/
theorem wp_start (t : Fin 6) (k : ℕ) (ht : tOf k = t) (c n : Dev nD) (hn : n = pr (step t) c)
    {src dst : Memref sig .tc .vmem S576x128 .bf16} (hs : src = srcM t) (hd : dst = dstM t) {qS qR : DmaSem sig} (hqS : qS = sndS t) (hqR : qR = rcvS t)
    {hsc : (dst : Memref sig (Dev.tc n : Thread nD τ).2.kind .vmem S576x128 .bf16).view.ref.isScScratch = false}
    {hsrc : src.view.WordExact} {hdst : (dst : Memref sig .tc .vmem S576x128 .bf16).view.WordExact}
    {hsem : DmaTarget.Typed .vmem (.dma qR) (.remote (Dev.tc n : Thread nD τ) (dst : Memref sig .tc .vmem S576x128 .bf16) (.dma qS) hsc)}
    {α : Type} {Q : α → sProp 𝕄} {kk : PUnit → Prog (TpuEff nD τ sig (Elt F) Λ₀ .tc) α}
    (A : Vec F S576x128 .bf16) (hA : Agree A (spec m t c)) (W : Waits sig Unit) :
    iprop(records m K ∗ accAt (side t) c A ∗ (∃ B, slotAt (F := F) t (pr (step t) c) B) ∗ owes (c : Thread nD τ) (OF c (k + 1)) W
        ∗ dutyTok ER (sndCell t c) 0 0 ∗ dutyTok ER (rcvCell t (pr (step t) c)) 0 0)
      ⊢ iprop(((cred (tallyAt (sndCell t c) () N) ∗ owes (c : Thread nD τ) (OF c k) W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma qS) hsc) (.dma qR) hsrc hdst hsem) kk) Q) := by
  iintro ⟨#HR, Ha, Hs, HO, Ht1, Ht2⟩
  iapply (wp_send m K t k ht c n hn hs hd hqS hqR A hA W) $$ [Ha Hs HO Ht1 Ht2]
  isplitr; · iapply (records_inv m K (c, kS t)); iexact HR
  isplitr; · iapply (records_inv m K (pr (step t) c, kR t)); iexact HR
  isplitl [Ha]; · iexact Ha
  isplitl [Hs]; · iexact Hs
  isplitl [HO]; · iexact HO
  isplitl [Ht1]; · iexact Ht1
  isplitr; · iapply (records_S m K t c); iexact HR
  isplitl [Ht2]; · iexact Ht2
  iapply (records_R m K t (pr (step t) c)); iexact HR

/-- Waiting until transfer `t` has left; its departure cell is done with. -/
theorem wp_left (t : Fin 6) (k : ℕ) (hk : k ≤ 6) (c : Dev nD) {q : DmaSem sig} (hq : q = sndS t) (W : Waits sig Unit)
    {src dst : Memref sig .tc .vmem S576x128 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(records m K ∗ levAts L lv ∗ cred (tallyAt (sndCell t c) () N) ∗ owes (c : Thread nD τ) (OF c k) W ∗ atPos ER (sndCell t c) 0 ∅ 0)
      ⊢ iprop(((owes (c : Thread nD τ) (OF c k) (insert (SemLoc.dma (sndS t), ()) W) ∗ semVal (sndCell t c) 0
            ∗ sndPay m t c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  iintro ⟨#HR, #Hl, Hc, HO, Hat⟩ Hk
  iapply (wp_wait_snd m K t k hk c hq W hN) $$ [Hc HO Hat]
  · isplitr; · iapply (records_inv m K (c, kS t)); iexact HR
    isplitl [Hc]; · iexact Hc
    isplitl [HO]; · iexact HO
    isplitr; · iexact Hl
    iexact Hat
  iintro ⟨HO, Hat, Hpay⟩
  imod (Rounds.cell_close ER (plan (F := F) m) (Set.mem_univ (K (c, kS t))) (fun h => h) (R := 0 + 1) (duties_later m (sndCell t c))) $$ [Hat] with Hz
  · isplitr; · iapply ((records_inv m K (c, kS t)).trans (Entails.of_eq (inv_S m K t c))); iexact HR
    iexact Hat
  iapply Hk
  isplitl [HO]; · iexact HO
  isplitl [Hz]; · iexact Hz
  iexact Hpay

/-- Waiting until the partner's transfer `t` has landed; its arrival cell is done with. -/
theorem wp_landed (t : Fin 6) (k : ℕ) (hk : t.val + k < 6) (c : Dev nD) {q : DmaSem sig} (hq : q = rcvS t) (W : Waits sig Unit)
    {src dst : Memref sig .tc .vmem S576x128 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(records m K ∗ levAts L lv ∗ cred (tallyAt (rcvCell t c) () N) ∗ owes (c : Thread nD τ) (OF c k) W ∗ atPos ER (rcvCell t c) 0 ∅ 0)
      ⊢ iprop(((owes (c : Thread nD τ) (OF c k) (insert (SemLoc.dma (rcvS t), ()) W) ∗ semVal (rcvCell t c) 0
            ∗ rcvPay m t c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  iintro ⟨#HR, #Hl, Hc, HO, Hat⟩ Hk
  iapply (wp_wait_rcv m K t k hk c hq W hN) $$ [Hc HO Hat]
  · isplitr; · iapply (records_inv m K (c, kR t)); iexact HR
    isplitl [Hc]; · iexact Hc
    isplitl [HO]; · iexact HO
    isplitr; · iexact Hl
    iexact Hat
  iintro ⟨HO, Hat, Hpay⟩
  imod (Rounds.cell_close ER (plan (F := F) m) (Set.mem_univ (K (c, kR t))) (fun h => h) (R := 0 + 1) (duties_later m (rcvCell t c))) $$ [Hat] with Hz
  · isplitr; · iapply ((records_inv m K (c, kR t)).trans (Entails.of_eq (inv_R m K t c))); iexact HR
    iexact Hat
  iapply Hk
  isplitl [HO]; · iexact HO
  isplitl [Hz]; · iexact Hz
  iexact Hpay

/-! ## Accumulators and slots -/

/-- The rectangle of a whole accumulator. -/
abbrev accRect : Rect S576x128 := Rect.unit (s := S576x128) ![0, 0] S576x128.size inb_S576x128_S576x128_0_0

omit [FloatOps F] in
/-- Two zero offsets are the zero function. -/
theorem off2 : (![0, 0] : Fin 2 → Nat) = fun _ => 0 := funext fun a => by fin_cases a <;> rfl

omit [FloatOps F] in
/-- A load of a whole accumulator reads its contents. -/
theorem read_acc (x : Fin 2) (f : (acc x).view.ty.Contents (Elt F)) :
    (acc x).view.readAt (Elt F) accRect.toLoadRect f = (acc x).view.read (Elt F) f := by
  match x with
  | 0 => exact Memref.readAt_unit_zero (Elt F) cc0_scratch0 off2 _ f
  | 1 => exact Memref.readAt_unit_zero (Elt F) cc0_scratch1 off2 _ f
omit [FloatOps F] in
/-- A store to a whole accumulator leaves what was stored. -/
theorem write_acc (x : Fin 2) (f : (acc x).view.ty.Contents (Elt F)) (w : Vec F S576x128 .bf16) :
    (acc x).view.read (Elt F) (((acc x).access accRect : View sig .tc _ _ _).write (Elt F) f w Finset.univ) = w := by
  match x with
  | 0 => exact (congrArg ((acc 0).view.read (Elt F)) (Memref.write_access_unit_zero_univ (Elt F) cc0_scratch0 off2 _ f w)).trans (View.read_whole ..)
  | 1 => exact (congrArg ((acc 1).view.read (Elt F)) (Memref.write_access_unit_zero_univ (Elt F) cc0_scratch1 off2 _ f w)).trans (View.read_whole ..)
omit [FloatOps F] in
/-- An accumulator is its whole buffer. -/
theorem acc_set (x : Fin 2) : (acc x).view.set = Finset.univ := by
  match x with | 0 => exact View.set_whole _ | 1 => exact View.set_whole _

/-- Reading a whole accumulator. -/
theorem wp_read (x : Fin 2) (c : Dev nD) (A : Vec F S576x128 .bf16) {M : Memref sig .tc .vmem S576x128 .bf16} (hM : M = acc x)
    {hl : M.view.LoadsAt accRect.toLoadRect} {α : Type} {Q : α → sProp 𝕄} {kk : (S576x128.Idx → Elt F .bf16) → Prog (TpuEff nD τ sig (Elt F) Λ₀ .tc) α} :
    accAt x c A ⊢ iprop((accAt x c A -∗ wp frame (wpE (defs₀ (F := F)) 𝒱₀ (c : Thread nD τ) none) Set.univ (kk A) Q)
      -∗ wp frame (wpE (defs₀ (F := F)) 𝒱₀ (c : Thread nD τ) none) Set.univ (.op (.load M accRect.toLoadRect hl) kk) Q) := by
  subst hM
  unfold accAt owns
  iintro ⟨%f, %hf, Hf⟩ Hk
  iapply (wp_load 𝒱₀ (c : Thread nD τ) none Set.univ (m := acc x) (by rw [acc_set]; exact Finset.subset_univ _)) $$ Hf
  iintro Hf
  rw [read_acc x f, hf]
  iapply Hk
  iexists f
  isplitr; · (ipureintro; exact hf)
  iexact Hf

/-- Rewriting a whole accumulator. -/
theorem wp_rewrite (x : Fin 2) (c : Dev nD) (A w : Vec F S576x128 .bf16) {M : Memref sig .tc .vmem S576x128 .bf16} (hM : M = acc x)
    {hx : (M.access accRect : View sig .tc _ _ _).Stores Finset.univ} {hm : (Finset.univ : Finset accRect.shape.Idx) = Finset.univ ∨ ∀ a, accRect.stride a = 1}
    {α : Type} {Q : α → sProp 𝕄} {kk : PUnit → Prog (TpuEff nD τ sig (Elt F) Λ₀ .tc) α} :
    accAt x c A ⊢ iprop((accAt x c w -∗ wp frame (wpE (defs₀ (F := F)) 𝒱₀ (c : Thread nD τ) none) Set.univ (kk ⟨⟩) Q)
      -∗ wp frame (wpE (defs₀ (F := F)) 𝒱₀ (c : Thread nD τ) none) Set.univ (.op (.store M accRect w Finset.univ hx hm) kk) Q) := by
  subst hM
  unfold accAt owns
  iintro ⟨%f, %hf, Hf⟩ Hk
  iapply (wp_store 𝒱₀ (c : Thread nD τ) none Set.univ (m := acc x) (r := accRect) (Mk := Finset.univ) (by rw [acc_set]; exact Finset.subset_univ _)) $$ Hf
  iintro Hf
  iapply Hk
  iexists _
  isplitr; swap
  · iexact Hf
  ipureintro
  exact write_acc x f w

/-- Reading a slot through its landing buffer. -/
theorem wp_read_slot (t : Fin 6) (c : Dev nD) (B : Vec F S576x128 .bf16) {M : Memref sig .tc .vmem S3x576x128 .bf16} (hM : M = rc (side t))
    {off : Fin 3 → ℕ} {inb : ∀ a, off a + S1x576x128.size a ≤ S3x576x128.size a} (hoff : off = ![(step t).val, 0, 0])
    {hl : M.view.LoadsAt (Rect.unit (s := S3x576x128) off S1x576x128.size inb).toLoadRect}
    {α : Type} {Q : α → sProp 𝕄} {kk : (S1x576x128.Idx → Elt F .bf16) → Prog (TpuEff nD τ sig (Elt F) Λ₀ .tc) α} :
    slotAt t c B ⊢ iprop((∀ V : S1x576x128.Idx → Elt F .bf16, ⌜shapeCast S576x128 V shapeCasts_S1x576x128_S576x128 = B⌝ -∗ slotAt t c B
        -∗ wp frame (wpE (defs₀ (F := F)) 𝒱₀ (c : Thread nD τ) none) Set.univ (kk V) Q)
      -∗ wp frame (wpE (defs₀ (F := F)) 𝒱₀ (c : Thread nD τ) none) Set.univ
        (.op (.load M (Rect.unit (s := S3x576x128) off S1x576x128.size inb).toLoadRect hl) kk) Q) := by
  subst hM hoff
  unfold slotAt owns
  iintro ⟨%f, %hf, Hf⟩ Hk
  have key := wp_load_rect (defs := defs₀ (F := F)) (Γ := .empty) 𝒱₀ (c : Thread nD τ) none Set.univ (m := rc (side t)) (r := slotRect (step t)) (S := (dstM t).view.set) (q := fullShare)
    (f := f) (hl := hl) (k := kk) (Q := Q)
    (by exact (View.set_reshape (v := ((rc (side t)).slice (slotRect (step t)) (fun _ => rfl)).view) squeezes_S1x576x128_S576x128.numel_eq).symm.subset)
  iapply (show ((dstM t).view.loc (c : Thread nD τ) ↦[(dstM t).view.set]{fullShare} f) ⊢ _ from key) $$ Hf
  iintro Hf
  iapply Hk $$ %(((rc (side t)).access (slotRect (step t))).read (Elt F) f) %hf [Hf]
  iexists f
  isplitr; · (ipureintro; exact hf)
  iexact Hf

/-! ## A landing buffer and its slots -/

omit [FloatOps F] in
/-- A slot's elements are those of its rectangle in the landing buffer. -/
theorem slot_set (x : Fin 2) (i : Fin 3) : (slot x i).view.set = ((rc x).view.slice (slotRect i)).set :=
  View.set_reshape (v := ((rc x).slice (slotRect i) (fun _ => rfl)).view) squeezes_S1x576x128_S576x128.numel_eq

omit [FloatOps F] in
/-- The slots of batch entry 0's landing buffer are its rows `0`, `1`, `2`: disjoint, and together everything. -/
theorem slot_disj (i j : Fin 3) (h : i ≠ j) : Disjoint (slotRect i).set (slotRect j).set := by
  rw [Finset.disjoint_left]
  intro y hy hy'
  have h1 := (Rect.mem_set_unit (inb := inb_slot i)).mp hy (0 : Fin 3)
  have h2 := (Rect.mem_set_unit (inb := inb_slot j)).mp hy' (0 : Fin 3)
  have e1 : i.val ≤ (y (0 : Fin 3)).val ∧ (y (0 : Fin 3)).val < i.val + 1 := h1
  have e2 : j.val ≤ (y (0 : Fin 3)).val ∧ (y (0 : Fin 3)).val < j.val + 1 := h2
  exact h (Fin.ext (by omega))
omit [FloatOps F] in
/-- The three slots make up the landing buffer. -/
theorem slot_cover : Finset.univ.biUnion (fun i : Fin 3 => (slotRect i).set) = Finset.univ := by
  refine Finset.eq_univ_iff_forall.mpr fun y => Finset.mem_biUnion.mpr ⟨⟨(y (0 : Fin 3)).val, (y (0 : Fin 3)).isLt⟩, Finset.mem_univ _, ?_⟩
  refine (Rect.mem_set_unit (inb := inb_slot _)).mpr fun a => ?_
  have h1 : (y (1 : Fin 3)).val < 576 := (y (1 : Fin 3)).isLt
  have h2 : (y (2 : Fin 3)).val < 128 := (y (2 : Fin 3)).isLt
  match a with
  | 0 => exact ⟨Nat.le_refl _, Nat.lt_succ_self _⟩
  | 1 => exact ⟨Nat.zero_le _, by show (y (1 : Fin 3)).val < 0 + 576; omega⟩
  | 2 => exact ⟨Nat.zero_le _, by show (y (2 : Fin 3)).val < 0 + 128; omega⟩

/-- A landing buffer, whole. -/
abbrev rcPts (x : Fin 2) (c : Dev nD) : sProp 𝕄 :=
  iprop(∃ f : Buf (Elt F) ((rc x).view.loc (c : Thread nD τ)), (rc x).view.loc (c : Thread nD τ) ↦{fullShare} f)
/-- Slot `i` of it, whatever it holds. -/
def anySlot (x : Fin 2) (i : Fin 3) (c : Dev nD) : sProp 𝕄 := iprop(∃ A, owns (c : Thread nD τ) (slot x i) fullShare A)

omit [FloatOps F] in
/-- Holding a slot is holding its rectangle of the landing buffer. -/
theorem slot_pts (x : Fin 2) (i : Fin 3) (c : Dev nD) (f : Buf (Elt F) ((rc x).view.loc (c : Thread nD τ))) :
    ((slot x i).view.loc (c : Thread nD τ) ↦[(slot x i).view.set]{fullShare} f : sProp 𝕄)
      = ((rc x).view.loc (c : Thread nD τ) ↦[((rc x).view.slice (slotRect i)).set]{fullShare} f : sProp 𝕄) := by
  rw [slot_set]; rfl

omit [FloatOps F] in
/-- Holding a slot at some value is holding its elements at some contents. -/
theorem any_slot_pts (x : Fin 2) (i : Fin 3) (c : Dev nD) :
    (anySlot (F := F) x i c) ⊣⊢ iprop(∃ f : Buf (Elt F) ((rc x).view.loc (c : Thread nD τ)), (slot x i).view.loc (c : Thread nD τ) ↦[(slot x i).view.set]{fullShare} f) := by
  unfold anySlot owns
  constructor
  · iintro ⟨%A, %f, -, H⟩
    iexists f; iexact H
  · iintro ⟨%f, H⟩
    iexists _; iexists f
    isplitr; · (ipureintro; rfl)
    iexact H

omit [FloatOps F] in
/-- A landing buffer splits into its three slots. -/
theorem rc_split (x : Fin 2) (c : Dev nD) : rcPts (F := F) x c ⊢ iprop(anySlot (F := F) x 0 c ∗ anySlot (F := F) x 1 c ∗ anySlot (F := F) x 2 c) := by
  refine BI.Entails.trans ?_ (BIClass.sep_mono (any_slot_pts x 0 c).2 (BIClass.sep_mono (any_slot_pts x 1 c).2 (any_slot_pts x 2 c).2))
  match x with
  | 0 =>
    exact Ring.slots3_split (fun i => (slotRect i).set) slot_disj slot_cover _ _ _
      (fun f => by rw [slot_pts]; exact congrArg (fun S => (_ ↦[S]{fullShare} f : sProp 𝕄)) (View.set_slice_whole cc0_scratch2 (slotRect 0)))
      (fun f => by rw [slot_pts]; exact congrArg (fun S => (_ ↦[S]{fullShare} f : sProp 𝕄)) (View.set_slice_whole cc0_scratch2 (slotRect 1)))
      (fun f => by rw [slot_pts]; exact congrArg (fun S => (_ ↦[S]{fullShare} f : sProp 𝕄)) (View.set_slice_whole cc0_scratch2 (slotRect 2)))
  | 1 =>
    exact Ring.slots3_split (fun i => (slotRect i).set) slot_disj slot_cover _ _ _
      (fun f => by rw [slot_pts]; exact congrArg (fun S => (_ ↦[S]{fullShare} f : sProp 𝕄)) (View.set_slice_whole cc0_scratch3 (slotRect 0)))
      (fun f => by rw [slot_pts]; exact congrArg (fun S => (_ ↦[S]{fullShare} f : sProp 𝕄)) (View.set_slice_whole cc0_scratch3 (slotRect 1)))
      (fun f => by rw [slot_pts]; exact congrArg (fun S => (_ ↦[S]{fullShare} f : sProp 𝕄)) (View.set_slice_whole cc0_scratch3 (slotRect 2)))

omit [FloatOps F] in
/-- Three slots make a landing buffer. -/
theorem rc_join (x : Fin 2) (c : Dev nD) : iprop(anySlot (F := F) x 0 c ∗ anySlot (F := F) x 1 c ∗ anySlot (F := F) x 2 c) ⊢ rcPts (F := F) x c := by
  refine BI.Entails.trans (BIClass.sep_mono (any_slot_pts x 0 c).1 (BIClass.sep_mono (any_slot_pts x 1 c).1 (any_slot_pts x 2 c).1)) ?_
  match x with
  | 0 =>
    exact Ring.slots3_join (fun i => (slotRect i).set) slot_disj slot_cover _ _ _
      (fun f => by rw [slot_pts]; exact congrArg (fun S => (_ ↦[S]{fullShare} f : sProp 𝕄)) (View.set_slice_whole cc0_scratch2 (slotRect 0)))
      (fun f => by rw [slot_pts]; exact congrArg (fun S => (_ ↦[S]{fullShare} f : sProp 𝕄)) (View.set_slice_whole cc0_scratch2 (slotRect 1)))
      (fun f => by rw [slot_pts]; exact congrArg (fun S => (_ ↦[S]{fullShare} f : sProp 𝕄)) (View.set_slice_whole cc0_scratch2 (slotRect 2)))
  | 1 =>
    exact Ring.slots3_join (fun i => (slotRect i).set) slot_disj slot_cover _ _ _
      (fun f => by rw [slot_pts]; exact congrArg (fun S => (_ ↦[S]{fullShare} f : sProp 𝕄)) (View.set_slice_whole cc0_scratch3 (slotRect 0)))
      (fun f => by rw [slot_pts]; exact congrArg (fun S => (_ ↦[S]{fullShare} f : sProp 𝕄)) (View.set_slice_whole cc0_scratch3 (slotRect 1)))
      (fun f => by rw [slot_pts]; exact congrArg (fun S => (_ ↦[S]{fullShare} f : sProp 𝕄)) (View.set_slice_whole cc0_scratch3 (slotRect 2)))

omit [FloatOps F] in
/-- Slots of transfers as slots of the landing buffers. -/
theorem slotAt_any (t : Fin 6) (c : Dev nD) : iprop(∃ A, slotAt (F := F) t c A) = anySlot (F := F) (side t) (step t) c := rfl

end Cert.Attn
-- ==== Proof.Body.lean ====
/-
# The kernel of one device

The body, run effect by effect on one device: it offers its landing slots to its three partners and waits for
theirs, computes its own share of both batch entries, exchanges running sums with the partners one after another
while the other entry's transfer is in flight, and writes the quotients times the output weights. Every device ends
with both entries of the result, its scratch buffers free again and every semaphore of its own back at zero.
-/
module

public import proofs.«01_k».proof.Proof.Moves
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ)

variable (ρ : Dev nD → PrngReg)

/-- The state a run starts from: the given memory, every semaphore at zero. -/
def s₀ : MemSt nD τ sig (Elt F) := ⟨m, fun _ => 0, ρ⟩

/-! ## What a device starts and ends with -/

/-- One assertion per transfer, the six side by side. -/
def all6 (Φ : Fin 6 → sProp 𝕄) : sProp 𝕄 := iprop(Φ 0 ∗ Φ 1 ∗ Φ 2 ∗ Φ 3 ∗ Φ 4 ∗ Φ 5)

/-- The two tokens with which a device starts transfer `t`: one for its own send cell, one for the partner's receive cell. -/
def tx (t : Fin 6) (c : Dev nD) : sProp 𝕄 :=
  iprop(dutyTok ER (sndCell t c) 0 0 ∗ dutyTok ER (rcvCell t (pr (step t) c)) 0 0)
/-- Its own two cells of transfer `t`, at their first round. -/
def posn (t : Fin 6) (c : Dev nD) : sProp 𝕄 :=
  iprop(atPos ER (sndCell t c) 0 ∅ 0 ∗ atPos ER (rcvCell t c) 0 ∅ 0)
/-- The tokens for the three signals it sends. -/
def barToks (c : Dev nD) : sProp 𝕄 :=
  iprop(dutyTok ER (barCell (pr 0 c)) 0 0 ∗ dutyTok ER (barCell (pr 1 c)) 0 1 ∗ dutyTok ER (barCell (pr 2 c)) 0 2)
/-- All of a device's own places and tokens. -/
def linear (c : Dev nD) : sProp 𝕄 :=
  iprop(atPos ER (barCell c) 0 ∅ 0 ∗ barToks c ∗ all6 (fun t => posn t c) ∗ all6 (fun t => tx t c))
/-- What it is given besides its buffers: the cells' records, its tokens, the credits of what will be sent to it. -/
def start (c : Dev nD) : sProp 𝕄 :=
  iprop((∃ K, records m K ∗ linear c) ∗ cred (tallyAt (barCell c) () 3)
    ∗ all6 (fun t => cred (tallyAt (rcvCell t c) () N)) ∗ levAts L lv)
/-- Its four scratch buffers, whatever they hold. -/
def scratch (c : Dev nD) : sProp 𝕄 :=
  iprop((∃ A, accAt 0 c A) ∗ (∃ A, accAt 1 c A) ∗ rcPts 0 c ∗ rcPts 1 c)
/-- Its thirteen semaphores, all at zero. -/
def zeros (c : Dev nD) : sProp 𝕄 :=
  iprop(semVal (barCell c) 0 ∗ all6 (fun t => iprop(semVal (sndCell t c) 0 ∗ semVal (rcvCell t c) 0)))
/-- What a device holds when its body begins. -/
def Φ₀ (c : Dev nD) : sProp 𝕄 := iprop(start m c ∗ scratch c)
/-- What it holds when its body has ended. -/
def Φ₁ (c : Dev nD) : sProp 𝕄 := iprop(scratch c ∗ zeros c)

/-- The proof data of the call: the operands stay as fetched, the result ends as `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X0 m c
    | ⟨1, _⟩ => X1 m c
    | ⟨2, _⟩ => X2 m c
    | ⟨3, _⟩ => X3 m c
    | ⟨4, _⟩ => X4 m c
    | ⟨5, _⟩ => outAt m c
  Φ t := match t with
    | ⟨0, _⟩ => Φ₀ m c
    | ⟨_ + 1, _⟩ => Φ₁ c
  q _ := fullShare
  owed t := match t with
    | ⟨0, _⟩ => OB3 c
    | ⟨_ + 1, _⟩ => 0

omit [FloatOps F] in
/-- A whole buffer held at a value, as the points-to of its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A buffer that some value is held in. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The whole buffer `b` on device `c`, holding `f`. -/
abbrev wholeAt (c : Dev nD) (b : Ref sig .tc) (f : Buf (Elt F) ((c : Thread nD τ).loc b)) : sProp 𝕄 :=
  (Memref.whole b).view.loc (c : Thread nD τ) ↦{fullShare} f

omit [FloatOps F] in
/-- A buffer that holds a value is the points-to of that value. -/
theorem some_eq (c : Dev nD) (b : Ref sig .tc) (A : b.ty.Contents (Elt F)) : (stg c b A : sProp 𝕄) = wholeAt c b A := by
  have h₁ : (stg c b A : sProp 𝕄) ⊢ wholeAt c b A := by
    iintro ⟨%f, %h, H⟩
    subst h
    iexact H
  have h₂ : (wholeAt c b A : sProp 𝕄) ⊢ stg c b A := by
    iintro H
    iexists A
    isplitr; · (ipureintro; rfl)
    iexact H
  exact h₁.antisymm h₂
omit [FloatOps F] in
/-- Accumulator 0 holding a value, as the points-to of its buffer. -/
theorem acc_open0 (c : Dev nD) (A : Vec F S576x128 .bf16) : (accAt 0 c A : sProp 𝕄) = wholeAt c cc0_scratch0 A :=
  (owns_whole_eq c cc0_scratch0 A).trans (some_eq c cc0_scratch0 A)

omit [FloatOps F] in
/-- Accumulator 1 holding a value, as the points-to of its buffer. -/
theorem acc_open1 (c : Dev nD) (A : Vec F S576x128 .bf16) : (accAt 1 c A : sProp 𝕄) = wholeAt c cc0_scratch1 A :=
  (owns_whole_eq c cc0_scratch1 A).trans (some_eq c cc0_scratch1 A)

omit [FloatOps F] in
/-- The two landing slots that device `c` hands to partner `i`. -/
theorem barPay_give (i : Fin 3) (c : Dev nD) : iprop(anySlot 0 i c ∗ anySlot 1 i c) ⊢ (barPay i (pr i c) : sProp 𝕄) := by
  unfold barPay; rw [pr_pr]
  match i with
  | ⟨0, _⟩ => exact Entails.rfl
  | ⟨1, _⟩ => exact Entails.rfl
  | ⟨2, _⟩ => exact Entails.rfl

/-- Accumulator 0 after all stores of batch entry 0: device `c`'s own share, on the lanes read. -/
theorem filled0 (c : Dev nD) (f : Buf (Elt F) ((c : Thread nD τ).loc cc0_scratch0)) :
    (wholeAt c cc0_scratch0 ((Memref.whole cc0_scratch0 : Memref sig .tc .vmem S576x128 .bf16).view.writes (Elt F) f
        (pieces (X0 m c) (X1 m c) (X2 m c) (X3 m c) 0)) : sProp 𝕄)
      ⊢ iprop(∃ A, ⌜Agree A (SP m 0 0 c)⌝ ∗ accAt 0 c A) := by
  iintro H
  iexists ((View.whole cc0_scratch0).read (Elt F) ((View.whole cc0_scratch0).writes (Elt F) f
        (pieces (X0 m c) (X1 m c) (X2 m c) (X3 m c) 0)) : Vec F S576x128 .bf16)
  isplitr
  · ipureintro
    exact agree_fill (X0 m c) (X1 m c) (X2 m c) (X3 m c) 0 (View.whole cc0_scratch0) f
  rw [View.read_whole]
  iapply (Entails.of_eq (acc_open0 c _).symm); iexact H

/-- Accumulator 1 after all stores of batch entry 1: device `c`'s own share, on the lanes read. -/
theorem filled1 (c : Dev nD) (f : Buf (Elt F) ((c : Thread nD τ).loc cc0_scratch1)) :
    (wholeAt c cc0_scratch1 ((Memref.whole cc0_scratch1 : Memref sig .tc .vmem S576x128 .bf16).view.writes (Elt F) f
        (pieces (X0 m c) (X1 m c) (X2 m c) (X3 m c) 1)) : sProp 𝕄)
      ⊢ iprop(∃ A, ⌜Agree A (SP m 1 0 c)⌝ ∗ accAt 1 c A) := by
  iintro H
  iexists ((View.whole cc0_scratch1).read (Elt F) ((View.whole cc0_scratch1).writes (Elt F) f
        (pieces (X0 m c) (X1 m c) (X2 m c) (X3 m c) 1)) : Vec F S576x128 .bf16)
  isplitr
  · ipureintro
    exact agree_fill (X0 m c) (X1 m c) (X2 m c) (X3 m c) 1 (View.whole cc0_scratch1) f
  rw [View.read_whole]
  iapply (Entails.of_eq (acc_open1 c _).symm); iexact H

omit [FloatOps F] in
/-- A value that a buffer holds, given a name. -/
theorem named (c : Dev nD) (b : Ref sig .tc) (f : Buf (Elt F) ((c : Thread nD τ).loc b)) :
    (wholeAt c b f : sProp 𝕄) ⊢ iprop(∃ g, ⌜g = f⌝ ∗ wholeAt c b g) := by
  iintro H
  iexists f
  isplitr; · (ipureintro; rfl)
  iexact H

omit [FloatOps F] in
/-- Two zero offsets are the zero function. -/
theorem zero2 : (![0, 0] : Fin 2 → ℕ) = fun _ => 0 := funext fun a => by fin_cases a <;> rfl
omit [FloatOps F] in
/-- Loading all of the query weights gives the query weights. -/
theorem read_wq (w : Vec F S512x256 .f32) :
    View.readAt (Elt F) (View.whole cc0_stg1_0) (Rect.unit ![0, 0] ![512, 256] inb_S512x256_S512x256_0_0).toLoadRect w = w :=
  Memref.readAt_unit_zero (Elt F) cc0_stg1_0 zero2 _ _

/-- The running sum after one more exchange, from the own running sum and the one that has landed. -/
theorem sum_agree (b : Fin 2) (i : ℕ) (c : Dev nD) {A B : Vec F S576x128 .bf16} {V : Vec F S1x576x128 .bf16}
    (hV : shapeCast S576x128 V shapeCasts_S1x576x128_S576x128 = B)
    (hA : Agree A (SP m b i c)) (hB : Agree B (SP m b i (pr (Fin.ofNat 3 i) c))) : Agree (k0_pay77 A V) (SP m b (i + 1) c) := by
  unfold k0_pay77
  rw [hV]
  simp only [shapeCast_self]
  exact hA.add hB

omit [FloatOps F] in
/-- The two landing slots that partner 0 of device `c` hands to it. -/
theorem barPay_take0 (c : Dev nD) : (barPay 0 c : sProp 𝕄) ⊢ iprop((∃ B, slotAt 0 (pr (step 0) c) B) ∗ (∃ B, slotAt 1 (pr (step 1) c) B)) :=
  Entails.rfl

omit [FloatOps F] in
/-- The two landing slots that partner 1 of device `c` hands to it. -/
theorem barPay_take1 (c : Dev nD) : (barPay 1 c : sProp 𝕄) ⊢ iprop((∃ B, slotAt 2 (pr (step 2) c) B) ∗ (∃ B, slotAt 3 (pr (step 3) c) B)) :=
  Entails.rfl

omit [FloatOps F] in
/-- The two landing slots that partner 2 of device `c` hands to it. -/
theorem barPay_take2 (c : Dev nD) : (barPay 2 c : sProp 𝕄) ⊢ iprop((∃ B, slotAt 4 (pr (step 4) c) B) ∗ (∃ B, slotAt 5 (pr (step 5) c) B)) :=
  Entails.rfl

omit [FloatOps F] in
/-- Everything of batch entry `b` lies in that entry's store. -/
theorem outPiece_mem (b : Fin 2) (w : Vec F S1x256x512 .f32) (y : S2x256x512.Idx) (hb : b.val = (y (0 : Fin 3)).val) :
    y ∈ (outPiece (F := F) b w).1.set := by
  have h1 : (y (1 : Fin 3)).val < 256 := (y (1 : Fin 3)).isLt
  have h2 : (y (2 : Fin 3)).val < 512 := (y (2 : Fin 3)).isLt
  refine (Rect.mem_set_unit (inb := inb_x b)).mpr (Fin.forall_fin_succ.mpr ⟨?_, Fin.forall_fin_two.mpr ⟨?_, ?_⟩⟩)
  · show b.val ≤ (y (0 : Fin 3)).val ∧ (y (0 : Fin 3)).val < b.val + 1
    omega
  · show 0 ≤ (y (1 : Fin 3)).val ∧ (y (1 : Fin 3)).val < 0 + 256
    omega
  · show 0 ≤ (y (2 : Fin 3)).val ∧ (y (2 : Fin 3)).val < 0 + 512
    omega

/-- The two stores of the result cover it, so what it held before does not matter. -/
theorem written (c : Dev nD) (f g : Vec F S2x256x512 .f32) (w₁ w₀ : Vec F S1x256x512 .f32) :
    (View.whole cc0_stg5_0).writes (Elt F) f [outPiece 1 w₁, outPiece 0 w₀]
      = (View.whole cc0_stg5_0).writes (Elt F) g [outPiece 1 w₁, outPiece 0 w₀] := by
  have cover : ∀ y : S2x256x512.Idx, ∃ p ∈ [outPiece (F := F) 1 w₁, outPiece 0 w₀], y ∈ p.1.set := fun y => by
    have h0 : (y (0 : Fin 3)).val < 2 := (y (0 : Fin 3)).isLt
    by_cases h : (y (0 : Fin 3)).val = 0
    · exact ⟨outPiece 0 w₀, List.mem_cons_of_mem _ (List.mem_cons_self ..), outPiece_mem 0 w₀ y (by rw [h]; rfl)⟩
    · exact ⟨outPiece 1 w₁, List.mem_cons_self .., outPiece_mem 1 w₁ y (by show 1 = (y (0 : Fin 3)).val; omega)⟩
  have key : (View.whole cc0_stg5_0).read (Elt F) ((View.whole cc0_stg5_0).writes (Elt F) f [outPiece 1 w₁, outPiece 0 w₀])
      = (View.whole cc0_stg5_0).read (Elt F) ((View.whole cc0_stg5_0).writes (Elt F) g [outPiece 1 w₁, outPiece 0 w₀]) :=
    funext fun y => View.read_writes_apply_eq (View.whole cc0_stg5_0) f (View.whole cc0_stg5_0) g y _ (cover y)
  rw [View.read_whole, View.read_whole] at key
  exact key

omit [FloatOps F] in
/-- A slot that holds a value is a slot, whatever it holds. -/
theorem slot_any (t : Fin 6) (c : Dev nD) (B : Vec F S576x128 .bf16) : (slotAt t c B : sProp 𝕄) ⊢ anySlot (side t) (step t) c := by
  have h : (slotAt t c B : sProp 𝕄) ⊢ iprop(∃ A, slotAt t c A) := by
    iintro H; iexists B; iexact H
  exact h.trans (Entails.of_eq (slotAt_any t c))

/-- At the end a device owes nothing. -/
theorem owes_end (c : Dev nD) {W : Finset (SemLoc sig × Unit)} :
    (owes (c : Thread nD τ) (OF c 0) W : sProp 𝕄) ⊢ (dats m ρ 0 c).owesAt () t0_0.succ := by
  unfold Dat.owesAt Pipeline.owesWithin
  rw [show (dats m ρ 0 c).owed t0_0.succ = OF c 0 from rfl]
  iintro HO
  iexists W
  isplitr
  · ipureintro; exact fun _ _ => Or.inl trivial
  iexact HO

/-- A program that only returns does what comes after it. -/
theorem wp_done (c : Dev nD) {α : Type} (a : α) {Q : α → sProp 𝕄} :
    Q a ⊢ wp frame (wpE (defs₀ (F := F)) 𝒱₀ (c : Thread nD τ) none) Set.univ (.ret a) Q := by
  rw [wp_ret]
  iintro H
  imodintro
  iexact H

/-! ## The body -/

set_option maxRecDepth 4000 in
/-- What the body starts from. -/
def bodyPre (K : Dev nD × Cell → ℕ) (c : Dev nD) : sProp 𝕄 :=
  iprop((records m K ∗ linear c ∗ cred (tallyAt (barCell c) () 3)
      ∗ all6 (fun t => cred (tallyAt (rcvCell t c) () N)) ∗ levAts L lv ∗ scratch c)
    ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
/-- What it ends with. -/
def bodyPost (c : Dev nD) : sProp 𝕄 :=
  iprop(Φ₁ c ∗ (dats m ρ 0 c).owesAt () t0_0.succ
    ∗ stg c cc0_stg0_0 (X0 m c) ∗ stg c cc0_stg1_0 (X1 m c) ∗ stg c cc0_stg2_0 (X2 m c)
    ∗ stg c cc0_stg3_0 (X3 m c) ∗ stg c cc0_stg4_0 (X4 m c) ∗ stg c cc0_stg5_0 (outAt m c))

set_option maxHeartbeats 4000000 in
set_option maxRecDepth 65536 in
/-- The body of device `c` runs from `bodyPre` to `bodyPost`. -/
theorem sound_body (K : Dev nD × Cell → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, Prog.bind_assoc, wp_deviceId]
  unfold bodyPre linear barToks all6 posn tx scratch
  iintro ⟨⟨⟨#HR, ⟨HatB, ⟨Hb0, Hb1, Hb2⟩, ⟨⟨HaS0, HaR0⟩, ⟨HaS1, HaR1⟩, ⟨HaS2, HaR2⟩, ⟨HaS3, HaR3⟩, ⟨HaS4, HaR4⟩, ⟨HaS5, HaR5⟩⟩,
      ⟨⟨HtS0, HtR0⟩, ⟨HtS1, HtR1⟩, ⟨HtS2, HtR2⟩, ⟨HtS3, HtR3⟩, ⟨HtS4, HtR4⟩, ⟨HtS5, HtR5⟩⟩⟩, HcB, ⟨Hc0, Hc1, Hc2, Hc3, Hc4, Hc5⟩, #Hlev,
      ⟨⟨%z0, Ha0⟩, ⟨%z1, Ha1⟩, Hr0, Hr1⟩⟩,
    Ho, ⟨%e0, %f0, %h0, Hx0⟩, ⟨%e1, %f1, %h1, Hx1⟩, ⟨%e2, %f2, %h2, Hx2⟩, ⟨%e3, %f3, %h3, Hx3⟩, ⟨%e4, %f4, %h4, Hx4⟩, ⟨%e5, %f5, %h5, Hx5⟩⟩, Hk⟩
  have h0' : f0 = X0 m c := by
    rw [h0]; unfold Dat.before; rw [if_pos (fetch0_0 t0_0)]; rfl
  have h1' : f1 = X1 m c := by
    rw [h1]; unfold Dat.before; rw [if_pos (fetch0_1 t0_0)]; rfl
  have h2' : f2 = X2 m c := by
    rw [h2]; unfold Dat.before; rw [if_pos (fetch0_2 t0_0)]; rfl
  have h3' : f3 = X3 m c := by
    rw [h3]; unfold Dat.before; rw [if_pos (fetch0_3 t0_0)]; rfl
  have h4' : f4 = X4 m c := by
    rw [h4]; unfold Dat.before; rw [if_pos (fetch0_4 t0_0)]; rfl
  clear h0 h1 h2 h3 h4 h5
  subst h0' h1' h2' h3' h4'
  unfold Dat.owesAt Pipeline.owesWithin
  icases Ho with ⟨%W, %hW, HO⟩
  rw [show (dats m ρ 0 c).owed t0_0.castSucc = OB3 c from rfl]
  simp only [dev1_eq c, dev2_eq c, dev3_eq c]
  -- the landing slots, offered to the three partners
  ihave Hs0 := (rc_split 0 c) $$ Hr0
  ihave Hs1 := (rc_split 1 c) $$ Hr1
  icases Hs0 with ⟨Hs00, Hs01, Hs02⟩
  icases Hs1 with ⟨Hs10, Hs11, Hs12⟩
  unfold OB3
  iapply (Rounds.wp_signal 𝒱₀ ER (plan m) (c : Thread nD τ) none (dst := (pr 0 c : Thread nD τ)) (κ := K (pr 0 c, 0))
      (d := 0) (by rw [duties_bar]; decide) ((amount_bar m (pr 0 c) 0).trans (by decide)) () (OB2 c) rfl)
    $$ [HO Hb0 Hs00 Hs10]
  · isplitr; · iapply (records_inv m K (pr 0 c, 0)); iexact HR
    isplitl [HO]; · iexact HO
    isplitl [Hb0]; · iexact Hb0
    isplitl [Hs00 Hs10]
    · rw [payload_bar]
      iapply (barPay_give 0 c)
      isplitl [Hs00]; · iexact Hs00
      iexact Hs10
    · iapply (records_reached m K (pr 0 c, 0)); iexact HR
  iintro HO
  unfold OB2
  iapply (Rounds.wp_signal 𝒱₀ ER (plan m) (c : Thread nD τ) none (dst := (pr 1 c : Thread nD τ)) (κ := K (pr 1 c, 0))
      (d := 1) (by rw [duties_bar]; decide) ((amount_bar m (pr 1 c) 1).trans (by decide)) () (OB1 c) rfl)
    $$ [HO Hb1 Hs01 Hs11]
  · isplitr; · iapply (records_inv m K (pr 1 c, 0)); iexact HR
    isplitl [HO]; · iexact HO
    isplitl [Hb1]; · iexact Hb1
    isplitl [Hs01 Hs11]
    · rw [payload_bar]
      iapply (barPay_give 1 c)
      isplitl [Hs01]; · iexact Hs01
      iexact Hs11
    · iapply (records_reached m K (pr 1 c, 0)); iexact HR
  iintro HO
  unfold OB1
  iapply (Rounds.wp_signal 𝒱₀ ER (plan m) (c : Thread nD τ) none (dst := (pr 2 c : Thread nD τ)) (κ := K (pr 2 c, 0))
      (d := 2) (by rw [duties_bar]; decide) ((amount_bar m (pr 2 c) 2).trans (by decide)) () (OF c 6) rfl)
    $$ [HO Hb2 Hs02 Hs12]
  · isplitr; · iapply (records_inv m K (pr 2 c, 0)); iexact HR
    isplitl [HO]; · iexact HO
    isplitl [Hb2]; · iexact Hb2
    isplitl [Hs02 Hs12]
    · rw [payload_bar]
      iapply (barPay_give 2 c)
      isplitl [Hs02]; · iexact Hs02
      iexact Hs12
    · iapply (records_reached m K (pr 2 c, 0)); iexact HR
  iintro HO
  -- the wait for the partners' three signals, which bring their slots
  iapply (Rounds.wp_wait_rest_token 𝒱₀ ER (plan m) (c : Thread nD τ) none (κ := K (c, 0))
      (wpE_semWait_eq 𝒱₀ (c : Thread nD τ) none Set.univ) (Set.mem_univ _) () (O := OF c 6) (W := W) (R := 0) (m := 0) (T := ∅)
      (by rw [expect_bar]; decide)) $$ [HcB HO HatB]
  · isplitr; · iapply (records_inv m K (c, 0)); iexact HR
    isplitl [HcB]; · iexact HcB
    isplitl [HO]; · iexact HO
    isplitr
    · iapply (mayWait_OF c (.reg barS) 6 (le_refl _) (by decide)); iexact Hlev
    iexact HatB
  iintro ⟨HO, HatB, -, Hpay⟩
  ihave Hp := (Entails.of_eq (rest_bar m c)) $$ Hpay
  icases Hp with ⟨Hp0, Hp1, Hp2⟩
  ihave Hp0 := (barPay_take0 c) $$ Hp0
  ihave Hp1 := (barPay_take1 c) $$ Hp1
  ihave Hp2 := (barPay_take2 c) $$ Hp2
  icases Hp0 with ⟨Hd0, Hd1⟩
  icases Hp1 with ⟨Hd2, Hd3⟩
  icases Hp2 with ⟨Hd4, Hd5⟩
  imod (Rounds.cell_close ER (plan m) (Set.mem_univ (K (c, 0))) (fun h => h) (R := 0 + 1) (duties_later m (barCell c))) $$ [HatB] with HzB
  · isplitr; · iapply (records_inv m K (c, 0)); iexact HR
    iexact HatB
  -- the first batch entry
  ihave Ha0 := (Entails.of_eq (acc_open0 c z0)) $$ Ha0
  ihave Ha1 := (Entails.of_eq (acc_open1 c z1)) $$ Ha1
  ihave Hx0 := (show ((c : Thread nD τ).loc cc0_stg0_0 ↦{fullShare} X0 m c : sProp 𝕄) ⊢ wholeAt c cc0_stg0_0 (X0 m c) from Entails.rfl) $$ Hx0
  ihave Hx1 := (show ((c : Thread nD τ).loc cc0_stg1_0 ↦{fullShare} X1 m c : sProp 𝕄) ⊢ wholeAt c cc0_stg1_0 (X1 m c) from Entails.rfl) $$ Hx1
  ihave Hx2 := (show ((c : Thread nD τ).loc cc0_stg2_0 ↦{fullShare} X2 m c : sProp 𝕄) ⊢ wholeAt c cc0_stg2_0 (X2 m c) from Entails.rfl) $$ Hx2
  ihave Hx3 := (show ((c : Thread nD τ).loc cc0_stg3_0 ↦{fullShare} X3 m c : sProp 𝕄) ⊢ wholeAt c cc0_stg3_0 (X3 m c) from Entails.rfl) $$ Hx3
  ihave Hx4 := (show ((c : Thread nD τ).loc cc0_stg4_0 ↦{fullShare} X4 m c : sProp 𝕄) ⊢ wholeAt c cc0_stg4_0 (X4 m c) from Entails.rfl) $$ Hx4
  ihave Hx5 := (show ((c : Thread nD τ).loc cc0_stg5_0 ↦{fullShare} f5 : sProp 𝕄) ⊢ wholeAt c cc0_stg5_0 f5 from Entails.rfl) $$ Hx5
  simp only [k0_part2_eq_skeleton, k0_part3_eq_skeleton, k0_part4_eq_skeleton, k0_part5_eq_skeleton, k0_part6_eq_skeleton]
  unfold k0_part2_skel k0_part3_skel k0_part4_skel k0_part5_skel k0_part6_skel
  sl_exec
  ihave Ha0 := (named c cc0_scratch0 _) $$ Ha0
  icases Ha0 with ⟨%g0, %hg0, Ha0⟩
  have hg0' : g0 = (Memref.whole cc0_scratch0 : Memref sig .tc .vmem S576x128 .bf16).view.writes (Elt F) z0
      (pieces (X0 m c) (X1 m c) (X2 m c) (X3 m c) 0) := by
    rw [hg0]
    refine congrArg _ ?_
    unfold pieces headPieces
    simp only [List.cons_append, List.nil_append, read_wq]
    rfl
  rw [hg0']
  clear hg0 hg0'
  clear g0
  ihave Ha0 := (filled0 m c z0) $$ Ha0
  icases Ha0 with ⟨%B0, %hB0, Ha0⟩
  -- transfer 0 starts
  iapply (wp_start m K 0 5 rfl c _ (dev4_eq c) (by rfl) (by rfl) (by rfl) (by rfl) B0 hB0 _) $$ [Ha0 Hd0 HO HtS0 HtR0]
  · isplitr; · iexact HR
    isplitl [Ha0]; · iexact Ha0
    isplitl [Hd0]; · iexact Hd0
    isplitl [HO]; · iexact HO
    isplitl [HtS0]; · iexact HtS0
    iexact HtR0
  iintro ⟨HcS0, HO⟩
  -- the second batch entry
  sl_exec
  ihave Ha1 := (named c cc0_scratch1 _) $$ Ha1
  icases Ha1 with ⟨%g1, %hg1, Ha1⟩
  have hg1' : g1 = (Memref.whole cc0_scratch1 : Memref sig .tc .vmem S576x128 .bf16).view.writes (Elt F) z1
      (pieces (X0 m c) (X1 m c) (X2 m c) (X3 m c) 1) := by
    rw [hg1]
    refine congrArg _ ?_
    unfold pieces headPieces
    delta sound_body.sl.r_8 sound_body.sl.r_7 sound_body.sl.r_6 sound_body.sl.r_5 sound_body.sl.r_4 sound_body.sl.r_3
      sound_body.sl.r_2 sound_body.sl.r_1
    delta sound_body.sl.r
    simp only [List.cons_append, List.nil_append, read_wq]
    rfl
  rw [hg1']
  clear hg1 hg1'
  clear g1
  ihave Ha1 := (filled1 m c z1) $$ Ha1
  icases Ha1 with ⟨%B1, %hB1, Ha1⟩
  -- transfer 1 starts
  iapply (wp_start m K 1 4 rfl c _ (dev5_eq c) (by rfl) (by rfl) (by rfl) (by rfl) B1 hB1 _) $$ [Ha1 Hd1 HO HtS1 HtR1]
  · isplitr; · iexact HR
    isplitl [Ha1]; · iexact Ha1
    isplitl [Hd1]; · iexact Hd1
    isplitl [HO]; · iexact HO
    isplitl [HtS1]; · iexact HtS1
    iexact HtR1
  iintro ⟨HcS1, HO⟩
  -- it has left
  iapply (wp_left m K 0 4 (by decide) c (by rfl) _ (by exact N_acc 0)) $$ [HcS0 HO HaS0]
  · isplitr; · iexact HR
    isplitr; · iexact Hlev
    isplitl [HcS0]; · iexact HcS0
    isplitl [HO]; · iexact HO
    iexact HaS0
  iintro ⟨HO, HzS0, Hpay⟩
  ihave Hpay := (show (sndPay m 0 c : sProp 𝕄) ⊢ iprop(∃ A, ⌜Agree A (SP m 0 0 c)⌝ ∗ accAt 0 c A) from Entails.rfl) $$ Hpay
  icases Hpay with ⟨%A0, %hA0, Ha0⟩
  -- the partner's has landed
  iapply (wp_landed m K 0 4 (by decide) c (by rfl) _ (by exact N_slot 0 0)) $$ [Hc0 HO HaR0]
  · isplitr; · iexact HR
    isplitr; · iexact Hlev
    isplitl [Hc0]; · iexact Hc0
    isplitl [HO]; · iexact HO
    iexact HaR0
  iintro ⟨HO, HzR0, Hpay⟩
  ihave Hpay := (show (rcvPay m 0 c : sProp 𝕄) ⊢ iprop(∃ A, ⌜Agree A (SP m 0 0 (pr 0 c))⌝ ∗ slotAt 0 c A) from Entails.rfl) $$ Hpay
  icases Hpay with ⟨%R0, %hR0, Hl0⟩
  iapply (wp_read 0 c A0 (by rfl)) $$ Ha0
  iintro Ha0
  iapply (wp_read_slot 0 c R0 (by rfl) (off := ![0, 0, 0]) (by rfl)) $$ Hl0
  iintro %V0 %hV0 Hl0
  iapply (wp_done c (k0_pay75 A0 V0))
  simp only [k0_part12_eq_skeleton]; unfold k0_part12_skel
  simp only [Prog.lift, Prog.bind_op, Prog.bind_ret, Prog.pure_eq_ret, Prog.bind_assoc]
  iapply (wp_read 0 c A0 (by rfl)) $$ Ha0
  iintro Ha0
  iapply (wp_rewrite 0 c A0 (k0_pay77 A0 V0) (by rfl)) $$ Ha0
  iintro Ha0
  have hS0 : Agree (k0_pay77 A0 V0) (SP m 0 1 c) := sum_agree m 0 0 c hV0 hA0 hR0
  -- transfer 2 starts
  iapply (wp_start m K 2 3 rfl c _ (dev6_eq c) (by rfl) (by rfl) (by rfl) (by rfl) (k0_pay77 A0 V0) hS0 _) $$ [Ha0 Hd2 HO HtS2 HtR2]
  · isplitr; · iexact HR
    isplitl [Ha0]; · iexact Ha0
    isplitl [Hd2]; · iexact Hd2
    isplitl [HO]; · iexact HO
    isplitl [HtS2]; · iexact HtS2
    iexact HtR2
  iintro ⟨HcS2, HO⟩
  -- it has left
  iapply (wp_left m K 1 3 (by decide) c (by rfl) _ (by exact N_acc 1)) $$ [HcS1 HO HaS1]
  · isplitr; · iexact HR
    isplitr; · iexact Hlev
    isplitl [HcS1]; · iexact HcS1
    isplitl [HO]; · iexact HO
    iexact HaS1
  iintro ⟨HO, HzS1, Hpay⟩
  ihave Hpay := (show (sndPay m 1 c : sProp 𝕄) ⊢ iprop(∃ A, ⌜Agree A (SP m 1 0 c)⌝ ∗ accAt 1 c A) from Entails.rfl) $$ Hpay
  icases Hpay with ⟨%A1, %hA1, Ha1⟩
  -- the partner's has landed
  iapply (wp_landed m K 1 3 (by decide) c (by rfl) _ (by exact N_slot 1 0)) $$ [Hc1 HO HaR1]
  · isplitr; · iexact HR
    isplitr; · iexact Hlev
    isplitl [Hc1]; · iexact Hc1
    isplitl [HO]; · iexact HO
    iexact HaR1
  iintro ⟨HO, HzR1, Hpay⟩
  ihave Hpay := (show (rcvPay m 1 c : sProp 𝕄) ⊢ iprop(∃ A, ⌜Agree A (SP m 1 0 (pr 0 c))⌝ ∗ slotAt 1 c A) from Entails.rfl) $$ Hpay
  icases Hpay with ⟨%R1, %hR1, Hl1⟩
  iapply (wp_read 1 c A1 (by rfl)) $$ Ha1
  iintro Ha1
  iapply (wp_read_slot 1 c R1 (by rfl) (off := ![0, 0, 0]) (by rfl)) $$ Hl1
  iintro %V1 %hV1 Hl1
  iapply (wp_read 1 c A1 (by rfl)) $$ Ha1
  iintro Ha1
  iapply (wp_rewrite 1 c A1 (k0_pay77 A1 V1) (by rfl)) $$ Ha1
  iintro Ha1
  have hS1 : Agree (k0_pay77 A1 V1) (SP m 1 1 c) := sum_agree m 1 0 c hV1 hA1 hR1
  simp only [k0_part13_eq_skeleton]; unfold k0_part13_skel
  simp only [Prog.lift, Prog.bind_op, Prog.bind_ret, Prog.pure_eq_ret, Prog.bind_assoc]
  -- transfer 3 starts
  iapply (wp_start m K 3 2 rfl c _ (dev7_eq c) (by rfl) (by rfl) (by rfl) (by rfl) (k0_pay77 A1 V1) hS1 _) $$ [Ha1 Hd3 HO HtS3 HtR3]
  · isplitr; · iexact HR
    isplitl [Ha1]; · iexact Ha1
    isplitl [Hd3]; · iexact Hd3
    isplitl [HO]; · iexact HO
    isplitl [HtS3]; · iexact HtS3
    iexact HtR3
  iintro ⟨HcS3, HO⟩
  -- it has left
  iapply (wp_left m K 2 2 (by decide) c (by rfl) _ (by exact N_acc 0)) $$ [HcS2 HO HaS2]
  · isplitr; · iexact HR
    isplitr; · iexact Hlev
    isplitl [HcS2]; · iexact HcS2
    isplitl [HO]; · iexact HO
    iexact HaS2
  iintro ⟨HO, HzS2, Hpay⟩
  ihave Hpay := (show (sndPay m 2 c : sProp 𝕄) ⊢ iprop(∃ A, ⌜Agree A (SP m 0 1 c)⌝ ∗ accAt 0 c A) from Entails.rfl) $$ Hpay
  icases Hpay with ⟨%A2, %hA2, Ha0⟩
  -- the partner's has landed
  iapply (wp_landed m K 2 2 (by decide) c (by rfl) _ (by exact N_slot 0 1)) $$ [Hc2 HO HaR2]
  · isplitr; · iexact HR
    isplitr; · iexact Hlev
    isplitl [Hc2]; · iexact Hc2
    isplitl [HO]; · iexact HO
    iexact HaR2
  iintro ⟨HO, HzR2, Hpay⟩
  ihave Hpay := (show (rcvPay m 2 c : sProp 𝕄) ⊢ iprop(∃ A, ⌜Agree A (SP m 0 1 (pr 1 c))⌝ ∗ slotAt 2 c A) from Entails.rfl) $$ Hpay
  icases Hpay with ⟨%R2, %hR2, Hl2⟩
  iapply (wp_read 0 c A2 (by rfl)) $$ Ha0
  iintro Ha0
  iapply (wp_read_slot 2 c R2 (by rfl) (off := ![1, 0, 0]) (by rfl)) $$ Hl2
  iintro %V2 %hV2 Hl2
  iapply (wp_read 0 c A2 (by rfl)) $$ Ha0
  iintro Ha0
  iapply (wp_rewrite 0 c A2 (k0_pay77 A2 V2) (by rfl)) $$ Ha0
  iintro Ha0
  have hS2 : Agree (k0_pay77 A2 V2) (SP m 0 2 c) := sum_agree m 0 1 c hV2 hA2 hR2
  simp only [k0_part14_eq_skeleton]; unfold k0_part14_skel
  simp only [Prog.lift, Prog.bind_op, Prog.bind_ret, Prog.pure_eq_ret, Prog.bind_assoc]
  -- transfer 4 starts
  iapply (wp_start m K 4 1 rfl c _ (dev8_eq c) (by rfl) (by rfl) (by rfl) (by rfl) (k0_pay77 A2 V2) hS2 _) $$ [Ha0 Hd4 HO HtS4 HtR4]
  · isplitr; · iexact HR
    isplitl [Ha0]; · iexact Ha0
    isplitl [Hd4]; · iexact Hd4
    isplitl [HO]; · iexact HO
    isplitl [HtS4]; · iexact HtS4
    iexact HtR4
  iintro ⟨HcS4, HO⟩
  -- it has left
  iapply (wp_left m K 3 1 (by decide) c (by rfl) _ (by exact N_acc 1)) $$ [HcS3 HO HaS3]
  · isplitr; · iexact HR
    isplitr; · iexact Hlev
    isplitl [HcS3]; · iexact HcS3
    isplitl [HO]; · iexact HO
    iexact HaS3
  iintro ⟨HO, HzS3, Hpay⟩
  ihave Hpay := (show (sndPay m 3 c : sProp 𝕄) ⊢ iprop(∃ A, ⌜Agree A (SP m 1 1 c)⌝ ∗ accAt 1 c A) from Entails.rfl) $$ Hpay
  icases Hpay with ⟨%A3, %hA3, Ha1⟩
  -- the partner's has landed
  iapply (wp_landed m K 3 1 (by decide) c (by rfl) _ (by exact N_slot 1 1)) $$ [Hc3 HO HaR3]
  · isplitr; · iexact HR
    isplitr; · iexact Hlev
    isplitl [Hc3]; · iexact Hc3
    isplitl [HO]; · iexact HO
    iexact HaR3
  iintro ⟨HO, HzR3, Hpay⟩
  ihave Hpay := (show (rcvPay m 3 c : sProp 𝕄) ⊢ iprop(∃ A, ⌜Agree A (SP m 1 1 (pr 1 c))⌝ ∗ slotAt 3 c A) from Entails.rfl) $$ Hpay
  icases Hpay with ⟨%R3, %hR3, Hl3⟩
  iapply (wp_read 1 c A3 (by rfl)) $$ Ha1
  iintro Ha1
  iapply (wp_read_slot 3 c R3 (by rfl) (off := ![1, 0, 0]) (by rfl)) $$ Hl3
  iintro %V3 %hV3 Hl3
  iapply (wp_read 1 c A3 (by rfl)) $$ Ha1
  iintro Ha1
  iapply (wp_rewrite 1 c A3 (k0_pay77 A3 V3) (by rfl)) $$ Ha1
  iintro Ha1
  have hS3 : Agree (k0_pay77 A3 V3) (SP m 1 2 c) := sum_agree m 1 1 c hV3 hA3 hR3
  simp only [k0_part15_eq_skeleton]; unfold k0_part15_skel
  simp only [Prog.lift, Prog.bind_op, Prog.bind_ret, Prog.pure_eq_ret, Prog.bind_assoc]
  -- transfer 5 starts
  iapply (wp_start m K 5 0 rfl c _ (dev9_eq c) (by rfl) (by rfl) (by rfl) (by rfl) (k0_pay77 A3 V3) hS3 _) $$ [Ha1 Hd5 HO HtS5 HtR5]
  · isplitr; · iexact HR
    isplitl [Ha1]; · iexact Ha1
    isplitl [Hd5]; · iexact Hd5
    isplitl [HO]; · iexact HO
    isplitl [HtS5]; · iexact HtS5
    iexact HtR5
  iintro ⟨HcS5, HO⟩
  -- it has left
  iapply (wp_left m K 4 0 (by decide) c (by rfl) _ (by exact N_acc 0)) $$ [HcS4 HO HaS4]
  · isplitr; · iexact HR
    isplitr; · iexact Hlev
    isplitl [HcS4]; · iexact HcS4
    isplitl [HO]; · iexact HO
    iexact HaS4
  iintro ⟨HO, HzS4, Hpay⟩
  ihave Hpay := (show (sndPay m 4 c : sProp 𝕄) ⊢ iprop(∃ A, ⌜Agree A (SP m 0 2 c)⌝ ∗ accAt 0 c A) from Entails.rfl) $$ Hpay
  icases Hpay with ⟨%A4, %hA4, Ha0⟩
  -- the partner's has landed
  iapply (wp_landed m K 4 0 (by decide) c (by rfl) _ (by exact N_slot 0 2)) $$ [Hc4 HO HaR4]
  · isplitr; · iexact HR
    isplitr; · iexact Hlev
    isplitl [Hc4]; · iexact Hc4
    isplitl [HO]; · iexact HO
    iexact HaR4
  iintro ⟨HO, HzR4, Hpay⟩
  ihave Hpay := (show (rcvPay m 4 c : sProp 𝕄) ⊢ iprop(∃ A, ⌜Agree A (SP m 0 2 (pr 2 c))⌝ ∗ slotAt 4 c A) from Entails.rfl) $$ Hpay
  icases Hpay with ⟨%R4, %hR4, Hl4⟩
  iapply (wp_read 0 c A4 (by rfl)) $$ Ha0
  iintro Ha0
  iapply (wp_read_slot 4 c R4 (by rfl) (off := ![2, 0, 0]) (by rfl)) $$ Hl4
  iintro %V4 %hV4 Hl4
  iapply (wp_read 0 c A4 (by rfl)) $$ Ha0
  iintro Ha0
  iapply (wp_rewrite 0 c A4 (k0_pay77 A4 V4) (by rfl)) $$ Ha0
  iintro Ha0
  have hS4 : Agree (k0_pay77 A4 V4) (SP m 0 3 c) := sum_agree m 0 2 c hV4 hA4 hR4
  -- it has left
  iapply (wp_left m K 5 0 (by decide) c (by rfl) _ (by exact N_acc 1)) $$ [HcS5 HO HaS5]
  · isplitr; · iexact HR
    isplitr; · iexact Hlev
    isplitl [HcS5]; · iexact HcS5
    isplitl [HO]; · iexact HO
    iexact HaS5
  iintro ⟨HO, HzS5, Hpay⟩
  ihave Hpay := (show (sndPay m 5 c : sProp 𝕄) ⊢ iprop(∃ A, ⌜Agree A (SP m 1 2 c)⌝ ∗ accAt 1 c A) from Entails.rfl) $$ Hpay
  icases Hpay with ⟨%A5, %hA5, Ha1⟩
  simp only [k0_part16_eq_skeleton]; unfold k0_part16_skel
  simp only [Prog.lift, Prog.bind_op, Prog.bind_ret, Prog.pure_eq_ret, Prog.bind_assoc]
  -- the partner's has landed
  iapply (wp_landed m K 5 0 (by decide) c (by rfl) _ (by exact N_slot 1 2)) $$ [Hc5 HO HaR5]
  · isplitr; · iexact HR
    isplitr; · iexact Hlev
    isplitl [Hc5]; · iexact Hc5
    isplitl [HO]; · iexact HO
    iexact HaR5
  iintro ⟨HO, HzR5, Hpay⟩
  ihave Hpay := (show (rcvPay m 5 c : sProp 𝕄) ⊢ iprop(∃ A, ⌜Agree A (SP m 1 2 (pr 2 c))⌝ ∗ slotAt 5 c A) from Entails.rfl) $$ Hpay
  icases Hpay with ⟨%R5, %hR5, Hl5⟩
  iapply (wp_read 1 c A5 (by rfl)) $$ Ha1
  iintro Ha1
  iapply (wp_read_slot 5 c R5 (by rfl) (off := ![2, 0, 0]) (by rfl)) $$ Hl5
  iintro %V5 %hV5 Hl5
  iapply (wp_read 1 c A5 (by rfl)) $$ Ha1
  iintro Ha1
  iapply (wp_rewrite 1 c A5 (k0_pay77 A5 V5) (by rfl)) $$ Ha1
  iintro Ha1
  have hS5 : Agree (k0_pay77 A5 V5) (SP m 1 3 c) := sum_agree m 1 2 c hV5 hA5 hR5
  -- the result of both batch entries
  ihave Ha0 := (Entails.of_eq (acc_open0 c (k0_pay77 A4 V4))) $$ Ha0
  ihave Ha1 := (Entails.of_eq (acc_open1 c (k0_pay77 A5 V5))) $$ Ha1
  sl_exec
  ihave Hx5 := (named c cc0_stg5_0 _) $$ Hx5
  icases Hx5 with ⟨%g5, %hg5, Hx5⟩
  have hg5' : g5 = outAt m c := by
    have key : ∀ P : List (View.Piece (Elt F) S2x256x512 .f32),
        P = [outPiece 1 (outB (X4 m c) (k0_pay77 A5 V5)), outPiece 0 (outB (X4 m c) (k0_pay77 A4 V4))] →
        (Memref.whole cc0_stg5_0 : Memref sig .tc .vmem S2x256x512 .f32).view.writes (Elt F) f5 P = outAt m c := fun P h => by
      rw [h, outB_congr (X4 m c) hS4, outB_congr (X4 m c) hS5]
      exact written c f5 (X0 m c) _ _
    rw [hg5]
    exact key _ rfl
  rw [hg5']
  clear hg5 hg5'
  clear g5
  iapply (wp_done c PUnit.unit)
  iapply Hk
  unfold bodyPost Φ₁ scratch zeros all6
  isplitl [Ha0 Ha1 Hl0 Hl1 Hl2 Hl3 Hl4 Hl5 HzB HzS0 HzR0 HzS1 HzR1 HzS2 HzR2 HzS3 HzR3 HzS4 HzR4 HzS5 HzR5]
  · isplitl [Ha0 Ha1 Hl0 Hl1 Hl2 Hl3 Hl4 Hl5]
    · isplitl [Ha0]
      · iexists (k0_pay77 A4 V4)
        iapply (Entails.of_eq (acc_open0 c (k0_pay77 A4 V4)).symm); iexact Ha0
      isplitl [Ha1]
      · iexists (k0_pay77 A5 V5)
        iapply (Entails.of_eq (acc_open1 c (k0_pay77 A5 V5)).symm); iexact Ha1
      isplitl [Hl0 Hl2 Hl4]
      · iapply (rc_join 0 c)
        isplitl [Hl0]; · iapply (slot_any 0 c R0); iexact Hl0
        isplitl [Hl2]; · iapply (slot_any 2 c R2); iexact Hl2
        iapply (slot_any 4 c R4); iexact Hl4
      · iapply (rc_join 1 c)
        isplitl [Hl1]; · iapply (slot_any 1 c R1); iexact Hl1
        isplitl [Hl3]; · iapply (slot_any 3 c R3); iexact Hl3
        iapply (slot_any 5 c R5); iexact Hl5
    isplitl [HzB]; · iexact HzB
    isplitl [HzS0 HzR0]
    · isplitl [HzS0]; · iexact HzS0
      iexact HzR0
    isplitl [HzS1 HzR1]
    · isplitl [HzS1]; · iexact HzS1
      iexact HzR1
    isplitl [HzS2 HzR2]
    · isplitl [HzS2]; · iexact HzS2
      iexact HzR2
    isplitl [HzS3 HzR3]
    · isplitl [HzS3]; · iexact HzS3
      iexact HzR3
    isplitl [HzS4 HzR4]
    · isplitl [HzS4]; · iexact HzS4
      iexact HzR4
    isplitl [HzS5]; · iexact HzS5
    iexact HzR5
  isplitl [HO]
  · iapply (owes_end m ρ c); iexact HO
  isplitl [Hx0]; · iapply (Entails.of_eq (some_eq c cc0_stg0_0 (X0 m c)).symm); iexact Hx0
  isplitl [Hx1]; · iapply (Entails.of_eq (some_eq c cc0_stg1_0 (X1 m c)).symm); iexact Hx1
  isplitl [Hx2]; · iapply (Entails.of_eq (some_eq c cc0_stg2_0 (X2 m c)).symm); iexact Hx2
  isplitl [Hx3]; · iapply (Entails.of_eq (some_eq c cc0_stg3_0 (X3 m c)).symm); iexact Hx3
  isplitl [Hx4]; · iapply (Entails.of_eq (some_eq c cc0_stg4_0 (X4 m c)).symm); iexact Hx4
  iapply (Entails.of_eq (some_eq c cc0_stg5_0 (outAt m c)).symm); iexact Hx5

/-- What the call is to leave in its result. -/
theorem after_out (c : Dev nD) : (dats m ρ 0 c).after (5 : Fin 6) t0_0 = outAt m c := by
  unfold dats; dsimp only

/-- The same start, the records and tokens not yet opened. -/
def bodyPre' (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 4000 in
/-- The body does what the call asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  rw [after_out]
  generalize hp : (defs₀ (F := F) Proc.tc 0 (t0_0, cfg0.slots t0_0) : Prog (TpuEff nD τ sig (Elt F) Λ₀ .tc) PUnit) = p
  have key : bodyPre' m ρ c ⊢ wp frame (wpE (defs₀ (F := F)) 𝒱₀ c none) Set.univ p (fun _ => bodyPost m ρ c) := by
    have hp' : p = cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7 := hp.symm
    rw [hp']
    unfold bodyPre' Φ₀ start
    iintro ⟨⟨⟨⟨%K, HR, Hlin⟩, HcB, Hc, Hlev⟩, Hscr⟩, Ho⟩
    iapply (sound_body m ρ K c fun _ => bodyPost m ρ c)
    unfold bodyPre
    isplitr []
    · isplitl [HR Hlin HcB Hc Hlev Hscr]
      · isplitl [HR]; · iexact HR
        isplitl [Hlin]; · iexact Hlin
        isplitl [HcB]; · iexact HcB
        isplitl [Hc]; · iexact Hc
        isplitl [Hlev]; · iexact Hlev
        iexact Hscr
      iexact Ho
    · iintro H; iexact H
  unfold bodyPre' bodyPost stg at key
  exact key

end Cert.Attn
-- ==== Proof.Launch.lean ====
/-
# The run of all eight devices

The devices' cells, tokens and credits are dealt out at the launch: every duty on a partner's cell goes to the device
that fulfils it. Then every device runs its body, and the run of the whole program follows, for any float values.
-/
module

public import proofs.«01_k».proof.Proof.Body
public import Idealize.ShloMosaic.Lib.Pipeline.CollectiveSegs
public import Idealize.ShloMosaic.Lib.Pipeline.ValueKit

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ)

variable (ρ : Dev nD → PrngReg)

/-! ## Semaphores and cells -/

/-- The kernel's own twelve semaphores. -/
abbrev osem : Fin 12 → SemLoc sig := fun k => csem k.succ

/-- The kernel's own semaphores are distinct and apart from those of the windows. -/
theorem ownSemFacts : Pipeline.OwnSemFacts cfg0.spec osem := by decide

/-- Every window is held in full. -/
theorem share_eq (c : Dev nD) (w : Fin cfg0.W) : (dats m ρ 0 c).share w = fullShare := by unfold Dat.share; split <;> rfl

/-- The thirteen cells of a device are thirteen semaphores. -/
theorem csem_injective : Function.Injective csem := by decide

/-- Different cells of different devices are different semaphores. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- All cells of all devices. -/
def allCells : Finset (GSem nD τ sig) := Finset.univ.map ⟨kcell, kcell_injective⟩

/-- The fifteen duties on a device's cells: three on the starting cell, one on each other. -/
def dutyCell : Fin 15 → Cell := fun j => ⟨j.val - 2, by omega⟩
/-- The number of each duty within its cell. -/
def dutyNo : Fin 15 → Fin 3 | 0 => 0 | 1 => 1 | 2 => 2 | _ => 0
/-- The token of a duty: its cell, the first round, its number. -/
abbrev tokOf (cj : Dev nD × Fin 15) : GSem nD τ sig × ℕ × Fin 3 := (kcell (cj.1, dutyCell cj.2), 0, dutyNo cj.2)
/-- A duty is known by its cell and its number. -/
theorem duty_injective : ∀ j j' : Fin 15, dutyCell j = dutyCell j' → dutyNo j = dutyNo j' → j = j' := by decide
/-- Different duties have different tokens. -/
theorem tokOf_injective : Function.Injective tokOf := by
  rintro ⟨c, j⟩ ⟨c', j'⟩ h
  have hk := kcell_injective (congrArg (fun x : GSem nD τ sig × ℕ × Fin 3 => x.1) h)
  have hd : dutyNo j = dutyNo j' := congrArg (fun x : GSem nD τ sig × ℕ × Fin 3 => x.2.2) h
  obtain rfl : c = c' := (Prod.mk.inj hk).1
  rw [duty_injective j j' (Prod.mk.inj hk).2 hd]
/-- The tokens of all duties of all devices. -/
def allToks : Finset (GSem nD τ sig × ℕ × Fin 3) := Finset.univ.map ⟨tokOf, tokOf_injective⟩

/-- The ghost state at the launch: the call's own, and that of the agreement. -/
def u₀ : UU := (initOf (Pipeline.cells cfgs cellOf_inj) (Pipeline.launchToks cfgs cellOf_inj), initOf allCells allToks)

/-- The duty tokens of device `c`'s own cells. -/
def toks (c : Dev nD) : sProp 𝕄 :=
  iprop((dutyTok ER (barCell c) 0 0 ∗ dutyTok ER (barCell c) 0 1 ∗ dutyTok ER (barCell c) 0 2)
    ∗ all6 (fun t => dutyTok ER (sndCell t c) 0 0) ∗ all6 (fun t => dutyTok ER (rcvCell t c) 0 0))

/-- What the launch deals device `c`, and what it has made of it. -/
def G (c : Dev nD) : sProp 𝕄 :=
  iprop((bigSep Finset.univ fun k : Cell => roundState ER (plan m) (kcell (c, k)) 0)
    ∗ (bigSep Finset.univ fun k : Cell => iprop(atPos ER (kcell (c, k)) 0 ∅ 0 ∗ reached ER (kcell (c, k)) 0)) ∗ toks c)
/-- What a device has once the cells' records are shared out: the records, and its own places and tokens. -/
def G' (c : Dev nD) : sProp 𝕄 := iprop(∃ K, records m K ∗ linear c)

omit [FloatOps F] in
/-- One assertion per cell: the starting cell's, the departures', the arrivals'. -/
theorem bigSep_cell (Φ : Cell → sProp 𝕄) :
    bigSep Finset.univ Φ ⊣⊢ iprop(Φ 0 ∗ all6 (fun t => Φ (kS t)) ∗ all6 (fun t => Φ (kR t))) := by
  rw [bigSep_univ_eq_bigSepL [0, 1, 2, 3, 4, 5, 6, 7, 8, 9, 10, 11, 12] (by decide) (by decide) Φ]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12)
    ⊣⊢ iprop(Φ 0 ∗ (Φ 1 ∗ Φ 2 ∗ Φ 3 ∗ Φ 4 ∗ Φ 5 ∗ Φ 6) ∗ (Φ 7 ∗ Φ 8 ∗ Φ 9 ∗ Φ 10 ∗ Φ 11 ∗ Φ 12))
  constructor
  · iintro ⟨H0, H1, H2, H3, H4, H5, H6, H⟩
    isplitl [H0]; · iexact H0
    isplitr [H]
    · isplitl [H1]; · iexact H1
      isplitl [H2]; · iexact H2
      isplitl [H3]; · iexact H3
      isplitl [H4]; · iexact H4
      isplitl [H5] <;> iassumption
    · iexact H
  · iintro ⟨H0, ⟨H1, H2, H3, H4, H5, H6⟩, H⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H

omit [FloatOps F] in
/-- One assertion per duty. -/
theorem bigSep_duty (Φ : Fin 15 → sProp 𝕄) :
    bigSep Finset.univ Φ ⊢ iprop((Φ 0 ∗ Φ 1 ∗ Φ 2) ∗ (Φ 3 ∗ Φ 4 ∗ Φ 5 ∗ Φ 6 ∗ Φ 7 ∗ Φ 8) ∗ (Φ 9 ∗ Φ 10 ∗ Φ 11 ∗ Φ 12 ∗ Φ 13 ∗ Φ 14)) := by
  rw [bigSep_univ_eq_bigSepL [0, 1, 2, 3, 4, 5, 6, 7, 8, 9, 10, 11, 12, 13, 14] (by decide) (by decide) Φ]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) ⊢ _
  iintro ⟨H0, H1, H2, H3, H4, H5, H6, H7, H8, H⟩
  isplitl [H0 H1 H2]
  · isplitl [H0]; · iexact H0
    isplitl [H1] <;> iassumption
  isplitr [H]
  · isplitl [H3]; · iexact H3
    isplitl [H4]; · iexact H4
    isplitl [H5]; · iexact H5
    isplitl [H6]; · iexact H6
    isplitl [H7] <;> iassumption
  · iexact H

/-- The launch element of the agreement deals every device its cells and tokens. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => bigSep_duty fun j => dutyTok ER (kcell (c, dutyCell j)) 0 (dutyNo j)
  iintro HX
  imod (Rounds.fund ER (plan m) allCells allToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- The departure and arrival semaphores are the kernel's own twelve; -/
theorem ownSems0_eq (c : Dev nD) : (Pipeline.ownSems0 (Ix := Unit) (Name := ℕ) (U := UU) (Lvl := ℕ) (Val := Elt F) (τ := τ) osem c : sProp 𝕄)
    = bigSepL [0, 1, 2, 3, 4, 5, 6, 7, 8, 9, 10, 11] (fun k : Fin 12 => (semVal (kcell (c, k.succ)) 0 : sProp 𝕄)) :=
  Pipeline.ownSems0_eq_of_list c osem [0, 1, 2, 3, 4, 5, 6, 7, 8, 9, 10, 11] (by decide) (by decide)
omit [FloatOps F] in
/-- the starting semaphore is the launch's only other one. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the semaphores of the cells. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Cell => semVal (kcell (c, k)) 0 : sProp 𝕄) := by
  rw [ownSems0_eq, unscopedSems0_eq,
    bigSep_univ_eq_bigSepL [0, 1, 2, 3, 4, 5, 6, 7, 8, 9, 10, 11, 12] (by decide) (by decide) (fun k : Cell => (semVal (kcell (c, k)) 0 : sProp 𝕄))]
  rfl

/-- Each cell's semaphore and round become its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Cell => semVal (kcell (c, k)) 0) ∗ bigSep Finset.univ fun k : Cell => roundState ER (plan m) (kcell (c, k)) 0)
      ⊢ (|={Set.univ}=> bigSep Finset.univ fun k => iprop(∃ κ : ℕ, cellInv ER (plan m) κ (kcell (c, k))) : sProp 𝕄) from by
        rw [← bigSep_sep']
        exact (bigSep_mono fun k _ => (Rounds.body_intro ER (plan m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- One assertion per device, each taken at its partner instead. -/
theorem at_partner (i : Fin 3) (Φ : Dev nD → sProp 𝕄) : bigSep Finset.univ Φ = bigSep Finset.univ fun c => Φ (pr i c) :=
  bigSep_univ_equiv (swap i) Φ

omit [FloatOps F] in
/-- The tokens dealt around: those of a starting cell and of an arrival cell go to the partner that fulfils them. -/
theorem toks_around : (bigSep Finset.univ fun c : Dev nD => (toks c : sProp 𝕄))
    ⊢ bigSep Finset.univ fun c : Dev nD => iprop(barToks c ∗ all6 fun t => tx t c) := by
  unfold toks barToks all6 tx
  simp only [bigSep_sep']
  rw [at_partner 0 (fun c : Dev nD => (dutyTok ER (barCell c) 0 0 : sProp 𝕄)), at_partner 1 (fun c : Dev nD => (dutyTok ER (barCell c) 0 1 : sProp 𝕄)),
    at_partner 2 (fun c : Dev nD => (dutyTok ER (barCell c) 0 2 : sProp 𝕄)),
    at_partner (step 0) (fun c : Dev nD => (dutyTok ER (rcvCell 0 c) 0 0 : sProp 𝕄)), at_partner (step 1) (fun c : Dev nD => (dutyTok ER (rcvCell 1 c) 0 0 : sProp 𝕄)),
    at_partner (step 2) (fun c : Dev nD => (dutyTok ER (rcvCell 2 c) 0 0 : sProp 𝕄)), at_partner (step 3) (fun c : Dev nD => (dutyTok ER (rcvCell 3 c) 0 0 : sProp 𝕄)),
    at_partner (step 4) (fun c : Dev nD => (dutyTok ER (rcvCell 4 c) 0 0 : sProp 𝕄)), at_partner (step 5) (fun c : Dev nD => (dutyTok ER (rcvCell 5 c) 0 0 : sProp 𝕄))]
  iintro ⟨⟨B0, B1, B2⟩, ⟨S0, S1, S2, S3, S4, S5⟩, R0, R1, R2, R3, R4, R5⟩
  isplitl [B0 B1 B2]
  · isplitl [B0]; · iexact B0
    isplitl [B1] <;> iassumption
  isplitl [S0 R0]; · isplitl [S0] <;> iassumption
  isplitl [S1 R1]; · isplitl [S1] <;> iassumption
  isplitl [S2 R2]; · isplitl [S2] <;> iassumption
  isplitl [S3 R3]; · isplitl [S3] <;> iassumption
  isplitl [S4 R4]; · isplitl [S4] <;> iassumption
  isplitl [S5] <;> iassumption

omit [FloatOps F] in
/-- A device's places at its cells, and its tokens. -/
theorem linear_intro (c : Dev nD) :
    iprop((bigSep Finset.univ fun k : Cell => (atPos ER (kcell (c, k)) 0 ∅ 0 : sProp 𝕄)) ∗ barToks c ∗ all6 fun t => tx t c) ⊢ linear c := by
  refine (sep_mono_left (bigSep_cell fun k : Cell => (atPos ER (kcell (c, k)) 0 ∅ 0 : sProp 𝕄)).1).trans ?_
  unfold linear all6 posn
  show iprop((atPos ER (barCell c) 0 ∅ 0
      ∗ (atPos ER (sndCell 0 c) 0 ∅ 0 ∗ atPos ER (sndCell 1 c) 0 ∅ 0 ∗ atPos ER (sndCell 2 c) 0 ∅ 0
        ∗ atPos ER (sndCell 3 c) 0 ∅ 0 ∗ atPos ER (sndCell 4 c) 0 ∅ 0 ∗ atPos ER (sndCell 5 c) 0 ∅ 0)
      ∗ (atPos ER (rcvCell 0 c) 0 ∅ 0 ∗ atPos ER (rcvCell 1 c) 0 ∅ 0 ∗ atPos ER (rcvCell 2 c) 0 ∅ 0
        ∗ atPos ER (rcvCell 3 c) 0 ∅ 0 ∗ atPos ER (rcvCell 4 c) 0 ∅ 0 ∗ atPos ER (rcvCell 5 c) 0 ∅ 0))
      ∗ barToks c ∗ tx 0 c ∗ tx 1 c ∗ tx 2 c ∗ tx 3 c ∗ tx 4 c ∗ tx 5 c) ⊢ _
  iintro ⟨⟨HB, ⟨S0, S1, S2, S3, S4, S5⟩, R0, R1, R2, R3, R4, R5⟩, HT, HX⟩
  isplitl [HB]; · iexact HB
  isplitl [HT]; · iexact HT
  isplitr [HX]
  · isplitl [S0 R0]; · isplitl [S0] <;> iassumption
    isplitl [S1 R1]; · isplitl [S1] <;> iassumption
    isplitl [S2 R2]; · isplitl [S2] <;> iassumption
    isplitl [S3 R3]; · isplitl [S3] <;> iassumption
    isplitl [S4 R4]; · isplitl [S4] <;> iassumption
    isplitl [S5] <;> iassumption
  · iexact HX

omit [FloatOps F] in
/-- What everyone knows, given to every device. -/
theorem bigSep_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants become records that every device has; places and tokens are dealt out. -/
theorem regroup :
    (bigSep Finset.univ fun c : Dev nD => iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cell => iprop(∃ κ : ℕ, cellInv ER (plan m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (plan m) κ (kcell ck) : sProp 𝕄))) $$ HI
  icases HK with ⟨%K, #HI⟩
  ihave Htk := (toks_around (F := F)) $$ Htok
  iapply (bigSep_known (R := records m K) (Φ := fun c => linear c) fun c _ => show iprop(records m K ∗ linear c) ⊢ G' m c from by
    unfold G'
    iintro H
    iexists K
    iexact H)
  isplitr
  · unfold records; isplitl; · iexact HI
    iexact HR
  · iapply ((Entails.of_eq (bigSep_sep' Finset.univ (fun c : Dev nD => bigSep Finset.univ fun k : Cell => (atPos ER (kcell (c, k)) 0 ∅ 0 : sProp 𝕄))
        (fun c => iprop(barToks c ∗ all6 fun t => tx t c))).symm).trans (bigSep_mono fun c _ => linear_intro c))
    isplitl [Hat]; · iexact Hat
    iexact Htk

/-- All semaphores of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

/-- A starting cell tells its device. -/
theorem bar_inj {a b : Dev nD} (h : barCell a = barCell b) : a = b := congrArg (fun g : GSem nD τ sig => g.1.1) h
/-- An arrival cell tells its transfer and its device. -/
theorem rcv_inj {t t' : Fin 6} {a b : Dev nD} (h : rcvCell t a = rcvCell t' b) : t = t' ∧ a = b := by
  refine ⟨?_, congrArg (fun g : GSem nD τ sig => g.1.1) h⟩
  have h2 : csem (kR t) = csem (kR t') := by rw [csem_kR, csem_kR]; exact congrArg Prod.snd h
  have h3 := congrArg Fin.val (csem_injective h2)
  exact Fin.ext (by have : 7 + t.val = 7 + t'.val := h3; omega)
/-- No arrival cell is a starting cell. -/
theorem rcv_ne_bar {t : Fin 6} {a b : Dev nD} (h : rcvCell t a = barCell b) : False := by
  have h2 : use (.dma (rcvS t)) = use (.reg barS) := congrArg (fun g : GSem nD τ sig => use g.2) h
  rw [use_rcv, use_bar] at h2
  cases h2
/-- One device is the partner of another exactly if the other is its partner. -/
theorem pr_iff (i : Fin 3) (d c : Dev nD) : c = pr i d ↔ d = pr i c :=
  ⟨fun h => by rw [h, pr_pr], fun h => by rw [h, pr_pr]⟩

/-- The transfers owe nothing at a starting cell. -/
theorem OF_bar (d c : Dev nD) : OF d 6 (barCell c) () = 0 := by
  by_contra h
  obtain ⟨t, -, e⟩ := OF_pos (c := d) (g := barCell c) (u := ()) 6 (Nat.le_refl 6) (Nat.pos_of_ne_zero h)
  exact rcv_ne_bar e.symm

/-- Before the transfers start, a device owes its partner of each transfer that transfer's credit. -/
theorem OF_rcv (t : Fin 6) (d c : Dev nD) : ∀ n, n ≤ 6 → OF d n (rcvCell t c) () = if 6 ≤ t.val + n ∧ d = pr (step t) c then N else 0
  | 0, _ => (if_neg fun h => by have := t.isLt; omega).symm
  | n + 1, hn => by
    unfold OF
    rw [Pi.add_apply, Finsupp.add_apply, OF_rcv t d c n (by omega), tallyAt_apply]
    have ht : (tOf n).val = 5 - n := rfl
    by_cases e : t = tOf n
    · subst e
      rw [if_neg (fun h => by omega), Nat.zero_add]
      by_cases hd : d = pr (step (tOf n)) c
      · rw [if_pos ⟨by rw [(pr_iff _ _ _).mpr hd], rfl⟩, if_pos ⟨by omega, hd⟩]
      · rw [if_neg (fun h => hd ((pr_iff _ _ _).mp (rcv_inj h.1).2)), if_neg (fun h => hd h.2)]
    · rw [if_neg (c := rcvCell t c = rcvCell (tOf n) (pr (step (tOf n)) d) ∧ _) (fun h => e (rcv_inj h.1).1), Nat.add_zero]
      have : t.val ≠ 5 - n := fun h => e (Fin.ext h)
      exact if_congr (by constructor <;> (rintro ⟨h, h'⟩; exact ⟨by omega, h'⟩)) rfl rfl

/-- At a starting cell each of the three partners of its device owes one count, and nobody else does. -/
theorem owed_bar (d c : Dev nD) : OB3 d (barCell c) () = (if d = pr 2 c then 1 else 0) + (if d = pr 1 c then 1 else 0) + (if d = pr 0 c then 1 else 0) := by
  have one : ∀ i : Fin 3, (tallyAt (barCell (pr i d)) () 1 : CellTallies nD τ sig Unit) (barCell c) () = if d = pr i c then 1 else 0 := fun i => by
    rw [tallyAt_apply]
    exact if_congr ⟨fun h => (pr_iff i d c).mp (bar_inj h.1), fun h => ⟨by rw [(pr_iff i d c).mpr h], rfl⟩⟩ rfl rfl
  unfold OB3 OB2 OB1
  simp only [Pi.add_apply, Finsupp.add_apply]
  rw [OF_bar, one, one, one, Nat.zero_add]

/-- At an arrival cell the partner of that step owes the credit of one transfer, and nobody else does. -/
theorem owed_rcv (t : Fin 6) (d c : Dev nD) : OB3 d (rcvCell t c) () = if d = pr (step t) c then N else 0 := by
  have none' : ∀ e : Dev nD, (tallyAt (barCell e) () 1 : CellTallies nD τ sig Unit) (rcvCell t c) () = 0 := fun e => by
    rw [tallyAt_apply]
    exact if_neg fun h => rcv_ne_bar h.1
  unfold OB3 OB2 OB1
  simp only [Pi.add_apply, Finsupp.add_apply]
  rw [none', none', none', OF_rcv t d c 6 (Nat.le_refl 6)]
  exact if_congr ⟨fun h => h.2, fun h => ⟨by omega, h⟩⟩ rfl rfl

/-- Altogether a starting cell is owed three counts. -/
theorem launch_bar (c : Dev nD) :
    tallyOn (barCell c) (launchCredit (Pipeline.owing OB3) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pr 2 c) fun _ => 1, Finset.sum_ite_eq' Finset.univ (pr 1 c) fun _ => 1, Finset.sum_ite_eq' Finset.univ (pr 0 c) fun _ => 1,
    if_pos (Finset.mem_univ _), if_pos (Finset.mem_univ _), if_pos (Finset.mem_univ _)]

/-- Altogether an arrival cell is owed the credit of one transfer. -/
theorem launch_rcv (t : Fin 6) (c : Dev nD) :
    tallyOn (rcvCell t c) (launchCredit (Pipeline.owing OB3) 0 (rcvCell t c)) = (tallyAt (rcvCell t c) () N : CellTallies nD τ sig Unit) := by
  unfold tallyAt; refine congrArg _ (Finsupp.ext fun u => ?_); cases u
  rw [Pipeline.launchCredit_owing, Finsupp.single_eq_same, Finset.sum_congr rfl fun d _ => owed_rcv t d c,
    Finset.sum_ite_eq' Finset.univ (pr (step t) c) fun _ => N, if_pos (Finset.mem_univ _)]

omit [FloatOps F] in
/-- What the others owe a device. -/
theorem creds (c : Dev nD) :
    (Pipeline.launchCred OB3 c : sProp 𝕄) ⊢ iprop(cred (tallyAt (barCell c) () 3) ∗ all6 fun t => cred (tallyAt (rcvCell t c) () N)) := by
  unfold Pipeline.launchCred
  refine (bigSep_subset (Finset.subset_univ (Finset.univ.map ⟨csem, csem_injective⟩))).trans ?_
  rw [bigSep_map]
  refine (bigSep_cell _).1.trans (sep_mono (Entails.of_eq ?_) (sep_elim_right.trans (Entails.of_eq ?_)))
  · exact congrArg cred (launch_bar c)
  · refine congrArg all6 (funext fun t => ?_)
    show (cred (tallyOn ((c : Thread nD τ), csem (kR t)) (launchCredit (Pipeline.owing OB3) 0 ((c : Thread nD τ), csem (kR t)))) : sProp 𝕄) = _
    rw [csem_kR]
    exact congrArg cred (launch_rcv t c)

/-! ## The side conditions of the launch -/

/-- Before its body a device has its start; -/
theorem start_intro (c : Dev nD) :
    iprop(Pipeline.unscopedRestP Pipeline.Prefetch.none cfg0.spec c (fun b => m ((c : Thread nD τ).loc b)) ∗ levAts L lv
        ∗ Pipeline.launchCred OB3 c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
/-- its scratch buffers are the call's four scoped ones. -/
theorem scratch_eq (c : Dev nD) : (Pipeline.scopedRest (Ix := Unit) (Name := ℕ) (U := UU) (Lvl := ℕ) (Val := Elt F) cfg0.spec c : sProp 𝕄) = scratch c := by
  rw [scopedRest0_eq]
  unfold scratch
  simp only [acc_open0, acc_open1]
  rfl

/-- What the launch gives a device, with its scratch buffers, is what its body begins with. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

omit [FloatOps F] in
/-- A device's thirteen semaphores at zero are its starting semaphore and its own twelve. -/
theorem zeros_exit (c : Dev nD) : zeros c ⊢ (iprop(unscopedSems0 c
    ∗ Pipeline.ownSems0 (Ix := Unit) (Name := ℕ) (U := UU) (Lvl := ℕ) (Val := Elt F) (τ := τ) osem c) : sProp 𝕄) := by
  rw [sems0_eq]
  refine BI.Entails.trans ?_ (bigSep_cell fun k : Cell => (semVal (kcell (c, k)) 0 : sProp 𝕄)).2
  unfold zeros all6
  show _ ⊢ iprop(semVal (barCell c) 0
      ∗ (semVal (sndCell 0 c) 0 ∗ semVal (sndCell 1 c) 0 ∗ semVal (sndCell 2 c) 0 ∗ semVal (sndCell 3 c) 0 ∗ semVal (sndCell 4 c) 0 ∗ semVal (sndCell 5 c) 0)
      ∗ (semVal (rcvCell 0 c) 0 ∗ semVal (rcvCell 1 c) 0 ∗ semVal (rcvCell 2 c) 0 ∗ semVal (rcvCell 3 c) 0 ∗ semVal (rcvCell 4 c) 0 ∗ semVal (rcvCell 5 c) 0))
  iintro ⟨HB, ⟨S0, R0⟩, ⟨S1, R1⟩, ⟨S2, R2⟩, ⟨S3, R3⟩, ⟨S4, R4⟩, S5, R5⟩
  isplitl [HB]; · iexact HB
  isplitl [S0 S1 S2 S3 S4 S5]
  · isplitl [S0]; · iexact S0
    isplitl [S1]; · iexact S1
    isplitl [S2]; · iexact S2
    isplitl [S3]; · iexact S3
    isplitl [S4] <;> iassumption
  · isplitl [R0]; · iexact R0
    isplitl [R1]; · iexact R1
    isplitl [R2]; · iexact R2
    isplitl [R3]; · iexact R3
    isplitl [R4] <;> iassumption

/-- What the body ends with gives back the scratch buffers and every semaphore at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  iintro ⟨Hr, Hz⟩
  ihave H := (zeros_exit (F := F) c) $$ Hz
  icases H with ⟨HU, HO⟩
  isplitl [HU]; · iexact HU
  isplitl [HO] <;> iassumption

/-- The waits for the windows' own copies are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N

/-- Every device's arrays hold that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with every semaphore at zero: every fair execution of the eight devices ends,
    with each device's arrays at the contents named above and every semaphore back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := OB3) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The five argument arrays hold what they held. -/
theorem finalA_in (c : Dev nD) (w : Fin 6) (hw : w ≠ 5) : finalA m ρ c w = (s₀ m ρ).mem ((cfg0.win w).arr.view.loc (c : Thread nD τ)) := by
  fin_cases w
  · exact (dats (F := F) m ρ 0 c).arrAt_in (0 : Fin 6) rfl _
  · exact (dats (F := F) m ρ 0 c).arrAt_in (1 : Fin 6) rfl _
  · exact (dats (F := F) m ρ 0 c).arrAt_in (2 : Fin 6) rfl _
  · exact (dats (F := F) m ρ 0 c).arrAt_in (3 : Fin 6) rfl _
  · exact (dats (F := F) m ρ 0 c).arrAt_in (4 : Fin 6) rfl _
  · exact absurd rfl hw

/-- The result array holds the body's output. -/
theorem finalA_out (c : Dev nD) : finalA m ρ c (5 : Fin 6) = outAt m c := by
  refine (dats m ρ 0 c).arrAt_eq_of_after_last 5 t0_0 (by decide +kernel) _ fun j => ?_
  rw [after_out]
  blk_simp

end Cert.Attn
-- ==== Proof.Frames.lean ====
/-
# The frames

Read off the runs: the arguments end as they were, and every semaphore is back at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Attn

open Idealize.ShloMosaic Idealize.SL.Sem
open Idealize.ShloMosaic.TcCoe

/-- Over any float values the kernel's run leaves the arguments and returns every semaphore to zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono
    (fun _ h => ⟨fun c => ⟨(h.1 c (0 : Fin 6)).trans (finalA_in m ρ c 0 (by decide)), (h.1 c (1 : Fin 6)).trans (finalA_in m ρ c 1 (by decide)),
      (h.1 c (2 : Fin 6)).trans (finalA_in m ρ c 2 (by decide)), (h.1 c (3 : Fin 6)).trans (finalA_in m ρ c 3 (by decide)),
      (h.1 c (4 : Fin 6)).trans (finalA_in m ρ c 4 (by decide))⟩, h.2⟩)
    (run_main (F := F) m ρ)

section SameText

attribute [local instance] Cert.Kernel.Gen.facts Cert.KernelIdeal.Gen.facts

variable {F : FTy → Type} [FloatOps F]

/-- The two printed forms of the kernel have one body, -/
theorem body_eq : Cert.Kernel.cc0_body (F := F) = Cert.KernelIdeal.cc0_body (F := F) := by
  delta Cert.Kernel.cc0_body Cert.KernelIdeal.cc0_body
  rfl

/-- one table of bodies, -/
theorem bodies_eq : Cert.Kernel.defs₀ (F := F) = Cert.KernelIdeal.defs₀ (F := F) := by
  delta Cert.Kernel.defs₀ Cert.KernelIdeal.defs₀
  rw [body_eq]
  generalize (Cert.KernelIdeal.cc0_body (F := F)) = B
  refine congrArg Defs.onTc ?_
  funext l x
  match l, x with
  | 0, (t, s) => rfl

/-- and one table of calls. -/
theorem calls_eq : Cert.Kernel.defs (F := F) = Cert.KernelIdeal.defs (F := F) := by
  delta Cert.Kernel.defs Cert.KernelIdeal.defs
  rw [bodies_eq]
  generalize (Cert.KernelIdeal.defs₀ (F := F)) = B
  rfl

end SameText

/-- The kernel as printed, over machine floats. -/
theorem frame_kernel : Cert.quiescent_Kernel (hKernel := Cert.Kernel.Gen.facts) := fun m ρ _ => by
  rw [calls_eq]
  have h := frame_any (F := Bits) m ρ
  revert h
  generalize (Cert.KernelIdeal.defs (F := Bits)) = D
  exact fun h => h

/-- The kernel over exact numbers. -/
theorem frame_kernel_ideal : Cert.quiescent_KernelIdeal (hKernelIdeal := Cert.KernelIdeal.Gen.facts) := fun m ρ _ => frame_any (F := Ideal) m ρ

/-- The reference over exact numbers, which has no semaphores. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Attn
-- ==== Proof.Algebra.lean ====
/-
# Extended reals: masked normalised sums

The arithmetic of the value claim, free of any program: real numbers among the extended reals, sums of them, and the
normalised exponentials of a masked row, with and without the row's maximum subtracted first.
-/
module

public import Idealize.ShloMosaic.Lib.Pointwise

@[expose] public section

noncomputable section

namespace Cert.Attn

open Idealize.ShloMosaic

/-- The sum of real numbers is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real number distributes over a sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

section Row
variable {ι : Type} [Fintype ι] (P : ι → Prop) [DecidablePred P] (σ : ι → ℝ)

/-- The masked exponential of a score. -/
def wexp (k : ι) : ℝ := if P k then Real.exp (σ k) else 0

/-- A masked exponential is not negative. -/
theorem wexp_nonneg (k : ι) : 0 ≤ wexp P σ k := by
  unfold wexp; split
  · exact (Real.exp_pos _).le
  · exact le_rfl

/-- A row with an entry that is kept has a positive sum. -/
theorem sum_wexp_pos (h : ∃ k, P k) : 0 < ∑ k, wexp P σ k := by
  obtain ⟨k, hk⟩ := h
  refine Finset.sum_pos' (fun i _ => wexp_nonneg P σ i) ⟨k, Finset.mem_univ k, ?_⟩
  unfold wexp; rw [if_pos hk]; exact Real.exp_pos _

/-- A score, or minus infinity where it is masked. -/
def msc (k : ι) : EReal := if P k then (σ k : EReal) else ⊥

/-- The maximum over a row with an entry that is kept is a real number. -/
theorem fold_max_coe (h : ∃ k, P k) : ∃ μ : ℝ, Finset.univ.fold max (⊥ : EReal) (msc P σ) = (μ : EReal) := by
  have htop : Finset.univ.fold max (⊥ : EReal) (msc P σ) ≠ ⊤ := by
    refine ne_of_lt ((Finset.fold_max_lt ⊤).mpr ⟨bot_lt_top, fun k _ => ?_⟩)
    unfold msc; split
    · exact EReal.coe_lt_top _
    · exact bot_lt_top
  have hbot : Finset.univ.fold max (⊥ : EReal) (msc P σ) ≠ ⊥ := by
    obtain ⟨k, hk⟩ := h
    refine ne_of_gt ((Finset.lt_fold_max ⊥).mpr (Or.inr ⟨k, Finset.mem_univ k, ?_⟩))
    unfold msc; rw [if_pos hk]; exact EReal.bot_lt_coe _
  exact ⟨_, (EReal.coe_toReal htop hbot).symm⟩

/-- A masked row's exponentials over their sum, each score first reduced by a real number: the reduction cancels. -/
theorem softmax_coe (h : ∃ k, P k) (μ : ℝ) (k : ι) :
    Ideal.div (Ideal.exp (msc P σ k - (μ : EReal))) (∑ k', Ideal.exp (msc P σ k' - (μ : EReal)))
      = ((wexp P σ k / ∑ k', wexp P σ k' : ℝ) : EReal) := by
  have e : ∀ k, Ideal.exp (msc P σ k - (μ : EReal)) = ((wexp P σ k * Real.exp (-μ) : ℝ) : EReal) := fun k => by
    unfold msc wexp
    split
    · rw [← EReal.coe_sub, Ideal.exp_coe, ← Real.exp_add, sub_eq_add_neg]
    · rw [EReal.bot_sub, Ideal.exp_bot, zero_mul, EReal.coe_zero]
  have hs := sum_wexp_pos P σ h
  have hμ := Real.exp_pos (-μ)
  simp only [e]
  rw [← coe_sum, ← Finset.sum_mul, Ideal.div_coe (by positivity), ← EReal.coe_mul]
  congr 1
  field_simp

/-- Weighted sums divided by the sum of the weights are sums weighted by the quotients, whatever the values. -/
theorem div_sum (h : ∃ k, P k) (V : ι → EReal) :
    Ideal.div (∑ k, (wexp P σ k : EReal) * V k) (∑ k, (wexp P σ k : EReal))
      = ∑ k, V k * ((wexp P σ k / ∑ k', wexp P σ k' : ℝ) : EReal) := by
  have hs := sum_wexp_pos P σ h
  rw [← coe_sum, Ideal.div_coe hs.ne', sum_mul_coe _ _ (by positivity)]
  refine Finset.sum_congr rfl fun k _ => ?_
  rw [mul_comm (wexp P σ k : EReal), mul_assoc, ← EReal.coe_mul, mul_one_div]

end Row

/-- The word of one eighth. -/
theorem eighth : Ideal.ofBits .f32 0x3E000000#32 = ((1 / 8 : ℝ) : EReal) := by
  simp [Ideal.ofBits, Ideal.ieee, -EReal.coe_mul]
  norm_num

/-- The word of minus infinity. -/
theorem minus_infinity : Ideal.ofBits .f32 0xFF800000#32 = (⊥ : EReal) := by
  simp [Ideal.ofBits, Ideal.ieee]

/-- The word of plus infinity. -/
theorem plus_infinity : Ideal.ofBits .f32 0x7F800000#32 = (⊤ : EReal) := by
  simp [Ideal.ofBits, Ideal.ieee]

/-- Scores, the queries scaled by one eighth before they meet the keys or the products after: the same real number. -/
theorem score_coe {ι κ : Type} [Fintype ι] [Fintype κ] (x : ι → ℝ) (w : ι → κ → ℝ) (k : κ → ℝ) :
    (∑ d, (∑ t, (x t : EReal) * ((w t d : EReal) * ((1 / 8 : ℝ) : EReal))) * (k d : EReal))
      = (((∑ d, (∑ t, x t * w t d) * k d) * (1 / 8) : ℝ) : EReal) := by
  simp only [← EReal.coe_mul, ← coe_sum]
  congr 1
  rw [Finset.sum_mul]
  refine Finset.sum_congr rfl fun d _ => ?_
  rw [Finset.sum_mul, Finset.sum_mul, Finset.sum_mul]
  exact Finset.sum_congr rfl fun t _ => by ring

/-- The same real number with the factor of one eighth outside the sum. -/
theorem score_coe' {ι κ : Type} [Fintype ι] [Fintype κ] (x : ι → ℝ) (w : ι → κ → ℝ) (k : κ → ℝ) :
    (∑ d, (∑ t, (x t : EReal) * (w t d : EReal)) * (k d : EReal)) * ((1 / 8 : ℝ) : EReal)
      = (((∑ d, (∑ t, x t * w t d) * k d) * (1 / 8) : ℝ) : EReal) := by
  simp only [← EReal.coe_mul, ← coe_sum]

end Cert.Attn
-- ==== Proof.Result.lean ====
/-
# The kernel's result, entry by entry

Each formula of a device read at an index, over the extended reals: the masked exponentials, a head's partial weighted
sums and normalisers, what an accumulator holds at a lane, the running sum after the third step as the sum over the
eight devices, and an entry of the result as a sum over heads and their columns of weighted sums over normalisers times
output weights.
-/
module

public import proofs.«01_k».proof.Proof.Spec
public import proofs.«01_k».proof.Proof.Algebra
import Idealize.ShloMosaic.Lib.WritesUnit

@[expose] public section

set_option maxRecDepth 16384

noncomputable section

namespace Cert.Attn

open Cert.KernelIdeal Cert.KernelIdeal.Gen
open Idealize.ShloMosaic
open Idealize.ShloMosaic.TcCoe
open Idealize.SL.Sem

section Local
variable (x : Vec Ideal S2x256x512 .f32) (wq : Vec Ideal S512x256 .f32) (k v : Vec Ideal S2x256x4x64 .f32) (wo : Vec Ideal S256x512 .f32)

/-- The block number of a row, as a word. -/
theorem word_div (n : Fin 256) :
    Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32)
      = BitVec.ofNat 32 (n.val / 64) := by
  revert n
  decide +kernel

/-- The mask of a device keeps the pairs of rows in blocks of the same number. -/
theorem maskV_apply (i c : Fin 256) : maskV (ix2 i c) = BitVec.ofBool (decide (c.val / 64 = i.val / 64)) := by
  pointwise [maskV, k0_pay2, k0_pay3, k0_pay4, k0_pay5, k0_pay6]
  rw [word_div i, word_div c]
  obtain ⟨n, hn⟩ : ∃ n : Fin 4, n.val = i.val / 64 := ⟨⟨i.val / 64, by omega⟩, rfl⟩
  obtain ⟨r, hr⟩ : ∃ r : Fin 4, r.val = c.val / 64 := ⟨⟨c.val / 64, by omega⟩, rfl⟩
  rw [← hn, ← hr]
  clear hn hr
  revert n r
  decide +kernel

/-- The score of query row `i` and key row `c` of the device's block. -/
def scoreE (b : Fin 2) (h : Fin 4) (i c : Fin 256) : EReal :=
  ∑ d : Fin 64, (∑ t : Fin 512, x (ix3 b i t) * (wq (ix2 t ⟨64 * h.val + d.val, by omega⟩) * ((1 / 8 : ℝ) : EReal))) * k (ix4 b c h d)
/-- Its masked exponential. -/
def pE (b : Fin 2) (h : Fin 4) (i c : Fin 256) : EReal := if c.val / 64 = i.val / 64 then Ideal.exp (scoreE x wq k b h i c) else 0
/-- The partial weighted sum and the partial normaliser. -/
def ctxE (b : Fin 2) (h : Fin 4) (i : Fin 256) (d : Fin 64) : EReal := ∑ c : Fin 256, pE x wq k b h i c * v (ix4 b c h d)
/-- The partial normaliser. -/
def lE (b : Fin 2) (h : Fin 4) (i : Fin 256) : EReal := ∑ c : Fin 256, pE x wq k b h i c

/-- A projected query, `Wq` scaled by one eighth first. -/
theorem qAll_apply (b : Fin 2) (i n : Fin 256) :
    qAll x wq b (ix2 i n) = ∑ t : Fin 512, x (ix3 b i t) * (wq (ix2 t n) * ((1 / 8 : ℝ) : EReal)) := by
  rw [← eighth]
  pointwise [qAll, k0_pay8, k0_pay7, ldX]

/-- An entry of a head's masked exponentials, as a formula. -/
theorem pH_apply (b : Fin 2) (h : Fin 4) (i c : Fin 256) : pH x wq k b h (ix2 i c) = pE x wq k b h i c := by
  pointwise [pH, qH, ldKV, maskV_apply, qAll_apply, pE, scoreE]

/-- An entry of a head's partial weighted sums, as a formula. -/
theorem ctxH_apply (b : Fin 2) (h : Fin 4) (i : Fin 256) (d : Fin 64) :
    ctxH x wq k v b h (ix2 i d) = ctxE x wq k v b h i d := by
  pointwise [ctxH, ldKV, pH_apply, ctxE]

/-- A partial normaliser of a head, in quarters of 64 rows. -/
theorem lH_apply (b : Fin 2) (h q : Fin 4) (r : Fin 64) :
    lH x wq k b h q (ix2 r 0) = lE x wq k b h ⟨64 * q.val + r.val, by omega⟩ := by
  pointwise [lH, lRow, pH_apply, lE]

/-! ## An accumulator at a lane -/

/-- What is stored at a row and a column: weighted sums above row 512, normalisers from there on. -/
def laneE (b : Fin 2) (r : Fin 576) (n : Fin 128) : EReal :=
  if r.val < 512 then
    ctxE x wq k v b ⟨(2 * (r.val / 256) + n.val / 64) % 4, Nat.mod_lt _ (by decide)⟩ ⟨r.val % 256, Nat.mod_lt _ (by decide)⟩
      ⟨n.val % 64, Nat.mod_lt _ (by decide)⟩
  else lE x wq k b ⟨n.val / 4 % 4, Nat.mod_lt _ (by decide)⟩ ⟨(64 * (n.val % 4) + (r.val - 512)) % 256, Nat.mod_lt _ (by decide)⟩

/-- Where a head's weighted sums are stored. -/
theorem laneE_ctx (b : Fin 2) (h : Fin 4) (i : Fin 256) (d : Fin 64) (r : Fin 576) (n : Fin 128)
    (hr : r.val = 256 * (h.val / 2) + i.val) (hn : n.val = 64 * (h.val % 2) + d.val) :
    laneE x wq k v b r n = ctxE x wq k v b h i d := by
  have := h.isLt; have := i.isLt; have := d.isLt
  unfold laneE
  rw [if_pos (by omega)]
  have e₁ : (⟨(2 * (r.val / 256) + n.val / 64) % 4, Nat.mod_lt _ (by decide)⟩ : Fin 4) = h :=
    Fin.ext (by show (2 * (r.val / 256) + n.val / 64) % 4 = h.val; omega)
  have e₂ : (⟨r.val % 256, Nat.mod_lt _ (by decide)⟩ : Fin 256) = i := Fin.ext (by show r.val % 256 = i.val; omega)
  have e₃ : (⟨n.val % 64, Nat.mod_lt _ (by decide)⟩ : Fin 64) = d := Fin.ext (by show n.val % 64 = d.val; omega)
  rw [e₁, e₂, e₃]

/-- Where a head's normalisers are stored. -/
theorem laneE_l (b : Fin 2) (h q : Fin 4) (s : Fin 64) (i : Fin 256) (r : Fin 576) (n : Fin 128)
    (hr : r.val = 512 + s.val) (hn : n.val = 4 * h.val + q.val) (hi : i.val = 64 * q.val + s.val) :
    laneE x wq k v b r n = lE x wq k b h i := by
  have := h.isLt; have := q.isLt; have := s.isLt
  unfold laneE
  rw [if_neg (by omega)]
  have e₁ : (⟨n.val / 4 % 4, Nat.mod_lt _ (by decide)⟩ : Fin 4) = h := Fin.ext (by show n.val / 4 % 4 = h.val; omega)
  have e₂ : (⟨(64 * (n.val % 4) + (r.val - 512)) % 256, Nat.mod_lt _ (by decide)⟩ : Fin 256) = i :=
    Fin.ext (by show (64 * (n.val % 4) + (r.val - 512)) % 256 = i.val; omega)
  rw [e₁, e₂]

/-- The stores write this. -/
theorem fill_apply (b : Fin 2) (y : S576x128.Idx) (hy : Lane y) :
    fill x wq k v b y = laneE x wq k v b (y (0 : Fin 2)) (y (1 : Fin 2)) := by
  refine View.read_writes_apply_of_pieces _ _ (fun y => laneE x wq k v b (y (0 : Fin 2)) (y (1 : Fin 2))) _ ?_ y (pieces_cover x wq k v b y hy)
  have hc : ∀ h : Fin 4, ∀ z : (ctxPiece (F := Ideal) h (ctxH x wq k v b h)).1.shape.Idx,
      (ctxPiece (F := Ideal) h (ctxH x wq k v b h)).2 z
        = laneE x wq k v b ((ctxPiece (F := Ideal) h (ctxH x wq k v b h)).1.emb z (0 : Fin 2)) ((ctxPiece (F := Ideal) h (ctxH x wq k v b h)).1.emb z (1 : Fin 2)) := by
    intro h z
    obtain ⟨i, d, rfl⟩ : ∃ (i : Fin 256) (d : Fin 64), z = ix2 i d := ⟨z 0, z 1, eq_ix2 z⟩
    refine (ctxH_apply x wq k v b h i d).trans (laneE_ctx x wq k v b h i d _ _ ?_ ?_).symm
    · show 256 * (h.val / 2) + 1 * i.val = _
      rw [Nat.one_mul]
    · show 64 * (h.val % 2) + 1 * d.val = _
      rw [Nat.one_mul]
  have hl : ∀ h q : Fin 4, ∀ z : (lPiece (F := Ideal) h q (lH x wq k b h q)).1.shape.Idx,
      (lPiece (F := Ideal) h q (lH x wq k b h q)).2 z
        = laneE x wq k v b ((lPiece (F := Ideal) h q (lH x wq k b h q)).1.emb z (0 : Fin 2)) ((lPiece (F := Ideal) h q (lH x wq k b h q)).1.emb z (1 : Fin 2)) := by
    intro h q z
    obtain ⟨r, d, rfl⟩ : ∃ (r : Fin 64) (d : Fin 1), z = ix2 r d := ⟨z 0, z 1, eq_ix2 z⟩
    obtain rfl : d = 0 := Subsingleton.elim _ _
    refine (lH_apply x wq k b h q r).trans (laneE_l x wq k v b h q r _ _ _ ?_ ?_ rfl).symm
    · show 512 + 1 * r.val = _
      rw [Nat.one_mul]
    · show 4 * h.val + q.val + 1 * 0 = _
      rfl
  intro p hp
  simp only [pieces, headPieces, List.cons_append, List.nil_append, List.mem_cons, List.not_mem_nil, or_false] at hp
  rcases hp with rfl | rfl | rfl | rfl | rfl | rfl | rfl | rfl | rfl | rfl | rfl | rfl | rfl | rfl | rfl | rfl | rfl | rfl | rfl | rfl
  all_goals first | exact hc _ | exact hl _ _

end Local

/-! ## The running sum after the third step -/

/-- Three rounds of adding the partner's value leave the sum over all devices. -/
theorem tree_sum (f : Dev nD → EReal) (c : Dev nD) :
    ((f c + f (pr 0 c)) + (f (pr 1 c) + f (pr 0 (pr 1 c))))
      + ((f (pr 2 c) + f (pr 0 (pr 2 c))) + (f (pr 1 (pr 2 c)) + f (pr 0 (pr 1 (pr 2 c))))) = ∑ D : Fin 8, f D := by
  rw [Fin.sum_univ_eight]
  fin_cases c
  · show ((f 0 + f 1) + (f 2 + f 3)) + ((f 4 + f 5) + (f 6 + f 7)) = _
    ac_rfl
  · show ((f 1 + f 0) + (f 3 + f 2)) + ((f 5 + f 4) + (f 7 + f 6)) = _
    ac_rfl
  · show ((f 2 + f 3) + (f 0 + f 1)) + ((f 6 + f 7) + (f 4 + f 5)) = _
    ac_rfl
  · show ((f 3 + f 2) + (f 1 + f 0)) + ((f 7 + f 6) + (f 5 + f 4)) = _
    ac_rfl
  · show ((f 4 + f 5) + (f 6 + f 7)) + ((f 0 + f 1) + (f 2 + f 3)) = _
    ac_rfl
  · show ((f 5 + f 4) + (f 7 + f 6)) + ((f 1 + f 0) + (f 3 + f 2)) = _
    ac_rfl
  · show ((f 6 + f 7) + (f 4 + f 5)) + ((f 2 + f 3) + (f 0 + f 1)) = _
    ac_rfl
  · show ((f 7 + f 6) + (f 5 + f 4)) + ((f 3 + f 2) + (f 1 + f 0)) = _
    ac_rfl

variable (m : (ℓ : Loc nD τ sig) → Buf (Elt Ideal) ℓ)

/-- After three exchanges an accumulator holds, at a stored entry, the sum of the entries of all eight devices. -/
theorem SP_apply (b : Fin 2) (c : Dev nD) (y : S576x128.Idx) (hy : Lane y) :
    SP m b 3 c y = ∑ D : Fin 8, laneE (X0 m D) (X1 m D) (X2 m D) (X3 m D) b (y (0 : Fin 2)) (y (1 : Fin 2)) := by
  rw [← tree_sum (fun D => laneE (X0 m D) (X1 m D) (X2 m D) (X3 m D) b (y (0 : Fin 2)) (y (1 : Fin 2))) c]
  simp only [← fill_apply _ _ _ _ b y hy]
  rfl

/-- Sums over the devices of partial weighted sums and normalisers. -/
def ctxS (b : Fin 2) (h : Fin 4) (i : Fin 256) (d : Fin 64) : EReal := ∑ D : Fin 8, ctxE (X0 m D) (X1 m D) (X2 m D) (X3 m D) b h i d
/-- The normaliser, summed over the devices. -/
def lS (b : Fin 2) (h : Fin 4) (i : Fin 256) : EReal := ∑ D : Fin 8, lE (X0 m D) (X1 m D) (X2 m D) b h i

/-- An entry of a head's attention output: the weighted sum over the normaliser. -/
theorem quot_apply (b : Fin 2) (c : Dev nD) (h : Fin 4) (i : Fin 256) (d : Fin 64) :
    quot (SP m b 3 c) h (ix2 i d) = Ideal.div (ctxS m b h i d) (lS m b h i) := by
  have hn : ∀ (q : Fin 4) (s : Fin 64) (r : Fin 576) (n : Fin 128), r.val = 512 + s.val → n.val = 4 * h.val + q.val →
      i.val = 64 * q.val + s.val → SP m b 3 c (ix2 r n) = lS m b h i := fun q s r n hr hn hi => by
    have := h.isLt; have := q.isLt
    exact (SP_apply m b c _ (Or.inr (by show n.val < 16; omega))).trans
      (Finset.sum_congr rfl fun D _ => laneE_l _ _ _ _ b h q s i r n hr hn hi)
  have hw : ∀ (r : Fin 576) (n : Fin 128), r.val = 256 * (h.val / 2) + i.val → n.val = 64 * (h.val % 2) + d.val →
      SP m b 3 c (ix2 r n) = ctxS m b h i d := fun r n hr hn => by
    have := h.isLt; have := i.isLt
    exact (SP_apply m b c _ (Or.inl (by show r.val < 512; omega))).trans
      (Finset.sum_congr rfl fun D _ => laneE_ctx _ _ _ _ b h i d r n hr hn)
  pointwise [quot, overCol, lCol, lOf, ctxOf]
  rw [hw _ _ rfl rfl]
  refine congrArg (Ideal.div _) ?_
  by_cases h₁ : i.val < 64
  · rw [dif_pos h₁]
    exact hn 0 ⟨i.val, h₁⟩ _ _ rfl rfl (by show i.val = 64 * 0 + i.val; omega)
  rw [dif_neg h₁]
  by_cases h₂ : i.val - 64 < 64
  · rw [dif_pos h₂]
    exact hn 1 ⟨i.val - 64, h₂⟩ _ _ rfl rfl (by show i.val = 64 * 1 + (i.val - 64); omega)
  rw [dif_neg h₂]
  by_cases h₃ : i.val - 64 - 64 < 64
  · rw [dif_pos h₃]
    exact hn 2 ⟨i.val - 64 - 64, h₃⟩ _ _ rfl rfl (by show i.val = 64 * 2 + (i.val - 64 - 64); omega)
  rw [dif_neg h₃]
  exact hn 3 ⟨i.val - 64 - 64 - 64, by omega⟩ _ _ rfl rfl (by show i.val = 64 * 3 + (i.val - 64 - 64 - 64); omega)

/-- The newest store of the result, read at an element of its own batch entry. -/
theorem read_hit {κ : Kind} {sp : Space} (V : View sig κ sp S2x256x512 .f32) (f : V.ty.Contents (Elt Ideal))
    (b : Fin 2) (w : FVec Ideal S1x256x512 .f32) (L : List (View.Piece (Elt Ideal) S2x256x512 .f32)) (i : Fin 256) (n : Fin 512) :
    V.read (Elt Ideal) (V.writes (Elt Ideal) f (outPiece b w :: L)) (ix3 b i n) = w (ix3 0 i n) := by
  have hx : ∀ a : Fin 3, ((ix3 b i n : S2x256x512.Idx) a).val = (![b.val, 0, 0] : Fin 3 → ℕ) a + ((ix3 (0 : Fin 1) i n : S1x256x512.Idx) a).val :=
    Fin.forall_fin_succ.mpr ⟨rfl, Fin.forall_fin_two.mpr ⟨(Nat.zero_add _).symm, (Nat.zero_add _).symm⟩⟩
  exact View.read_writes_cons_unit_of_mem V f (inb_x b) w L (ix3 b i n) (ix3 (0 : Fin 1) i n) rfl hx

/-- The newest store of the result, passed over at an element of the other batch entry. -/
theorem read_miss {κ : Kind} {sp : Space} (V : View sig κ sp S2x256x512 .f32) (f : V.ty.Contents (Elt Ideal))
    (w : FVec Ideal S1x256x512 .f32) (L : List (View.Piece (Elt Ideal) S2x256x512 .f32)) (i : Fin 256) (n : Fin 512) :
    V.read (Elt Ideal) (V.writes (Elt Ideal) f (outPiece 1 w :: L)) (ix3 0 i n) = V.read (Elt Ideal) (V.writes (Elt Ideal) f L) (ix3 0 i n) :=
  View.read_writes_cons_unit_of_not_mem V f (inb_x 1) w L (ix3 0 i n) rfl (0 : Fin 3) (Or.inl Nat.one_pos)

/-- The two stores of the result, read back through any view. -/
theorem read_out {κ : Kind} {sp : Space} (V : View sig κ sp S2x256x512 .f32) (f : V.ty.Contents (Elt Ideal))
    (w₀ w₁ : FVec Ideal S1x256x512 .f32) (b : Fin 2) (i : Fin 256) (n : Fin 512) (r : EReal) (h₀ : b = 0 → w₀ (ix3 0 i n) = r)
    (h₁ : b = 1 → w₁ (ix3 0 i n) = r) :
    V.read (Elt Ideal) (V.writes (Elt Ideal) f [outPiece 1 w₁, outPiece 0 w₀]) (ix3 b i n) = r := by
  obtain rfl | rfl : b = 0 ∨ b = 1 := by omega
  · exact (read_miss V f w₁ _ i n).trans ((read_hit V f 0 w₀ [] i n).trans (h₀ rfl))
  · exact (read_hit V f 1 w₁ _ i n).trans (h₁ rfl)

/-- An entry of what a device stores for one batch entry. -/
theorem outB_apply (c : Dev nD) (b : Fin 2) (i : Fin 256) (n : Fin 512) :
    outB (X4 m c) (SP m b 3 c) (ix3 0 i n)
      = ∑ h : Fin 4, ∑ d : Fin 64, Ideal.div (ctxS m b h i d) (lS m b h i) * X4 m c (ix2 ⟨64 * h.val + d.val, by omega⟩ n) := by
  rw [Fin.sum_univ_four]
  pointwise [outB, proj, ldWo, quot_apply]

/-- The two stores of the result into the result's own window. -/
theorem written_out (f : Vec Ideal S2x256x512 .f32) (w₀ w₁ : FVec Ideal S1x256x512 .f32) (b : Fin 2) (i : Fin 256)
    (n : Fin 512) (r : EReal) (h₀ : b = 0 → w₀ (ix3 0 i n) = r) (h₁ : b = 1 → w₁ (ix3 0 i n) = r) :
    (Memref.whole cc0_stg5_0 : Memref sig .tc .vmem S2x256x512 .f32).view.writes (Elt Ideal) f [outPiece 1 w₁, outPiece 0 w₀] (ix3 b i n) = r := by
  have key := read_out (View.whole cc0_stg5_0) f w₀ w₁ b i n r h₀ h₁
  rw [View.read_whole] at key
  exact key

/-- A device's result, read as one batch entry's store. -/
theorem outAt_piece (c : Dev nD) (b : Fin 2) (i : Fin 256) (n : Fin 512) (r : EReal)
    (h : outB (X4 m c) (SP m b 3 c) (ix3 0 i n) = r) : outAt m c (ix3 b i n) = r :=
  written_out (X0 m c) _ _ b i n r (fun hb => by rw [hb] at h; exact h) (fun hb => by rw [hb] at h; exact h)

/-- An entry of a device's result. -/
theorem outAt_apply (c : Dev nD) (b : Fin 2) (i : Fin 256) (n : Fin 512) :
    outAt m c (ix3 b i n)
      = ∑ h : Fin 4, ∑ d : Fin 64, Ideal.div (ctxS m b h i d) (lS m b h i) * X4 m c (ix2 ⟨64 * h.val + d.val, by omega⟩ n) :=
  outAt_piece m c b i n _ (outB_apply m c b i n)

end Cert.Attn
-- ==== Proof.Reference.lean ====
/-
# The reference's result, entry by entry

The reference's composed term is restated in named parts: the numbers of the query and key blocks and their remainders
by four, the mask, the scores, the masked scores, their row maxima, the exponentials, the weights, the weighted sums.
Each part is read at an index. In the end an entry of the result is a sum over the 256 columns of the attention output,
each of them the sum over all keys of a value times a weight.
-/
module

public import proofs.«01_k».proof.Proof.Algebra
public import proofs.«01_k».proof.Proof.Gen.ReferenceIdeal.Run
public import Idealize.ShloMosaic.Lib.Routing.OpsOrder
public import Idealize.ShloMosaic.Lib.Decide

@[expose] public section

set_option maxRecDepth 16384

noncomputable section

namespace Cert.Attn.Ref

open Cert.ReferenceIdeal Cert.ReferenceIdeal.Gen
open Idealize.ShloMosaic
open Idealize.ShloMosaic.TcCoe
open Idealize.SL.Sem

/-! ## The mask -/

/-- The number of the block of 64 of each query row. -/
def qBlock : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- The number of the block of 64 of each key row. -/
def kBlock : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))
/-- The same, as a column. -/
def qBlockCol : IVec S256x1 32 :=
  broadcastInDim S256x1 ![0] bcast_S256_S256x1_0 qBlock
/-- The same, as a row. -/
def kBlockRow : IVec S1x2048 32 :=
  broadcastInDim S1x2048 ![1] bcast_S2048_S1x2048_1 kBlock
/-- The divisor of the remainders. -/
def four : IVec S_ 32 :=
  select (cmpi .eq (id (constantI S_ 32 4#32)) (constantI S_ 32 0#32)) (constantI S_ 32 1#32) (id (constantI S_ 32 4#32))
/-- Query block numbers, their remainders by four. -/
def qBlock4 : IVec S256x1 32 :=
  select (andi (cmpi .ne (cmpi .slt (Host.remsi qBlockCol (broadcastInDim S256x1 ![] bcast_S_S256x1 four)) (broadcastInDim S256x1 ![] bcast_S_S256x1 (constantI S_ 32 0#32))) (broadcastInDim S256x1 ![] bcast_S_S256x1 (cmpi .slt four (constantI S_ 32 0#32)))) (cmpi .ne (Host.remsi qBlockCol (broadcastInDim S256x1 ![] bcast_S_S256x1 four)) (broadcastInDim S256x1 ![] bcast_S_S256x1 (constantI S_ 32 0#32)))) (addi (Host.remsi qBlockCol (broadcastInDim S256x1 ![] bcast_S_S256x1 four)) (broadcastInDim S256x1 ![] bcast_S_S256x1 four)) (Host.remsi qBlockCol (broadcastInDim S256x1 ![] bcast_S_S256x1 four))
/-- Key block numbers, their remainders by four. -/
def kBlock4 : IVec S1x2048 32 :=
  select (andi (cmpi .ne (cmpi .slt (Host.remsi kBlockRow (broadcastInDim S1x2048 ![] bcast_S_S1x2048 four)) (broadcastInDim S1x2048 ![] bcast_S_S1x2048 (constantI S_ 32 0#32))) (broadcastInDim S1x2048 ![] bcast_S_S1x2048 (cmpi .slt four (constantI S_ 32 0#32)))) (cmpi .ne (Host.remsi kBlockRow (broadcastInDim S1x2048 ![] bcast_S_S1x2048 four)) (broadcastInDim S1x2048 ![] bcast_S_S1x2048 (constantI S_ 32 0#32)))) (addi (Host.remsi kBlockRow (broadcastInDim S1x2048 ![] bcast_S_S1x2048 four)) (broadcastInDim S1x2048 ![] bcast_S_S1x2048 four)) (Host.remsi kBlockRow (broadcastInDim S1x2048 ![] bcast_S_S1x2048 four))
/-- The mask: equal block numbers, or equal remainders. -/
def mask : IVec S256x2048 1 :=
  ori (cmpi .eq (broadcastInDim S256x2048 ![0, 1] bcast_S256x1_S256x2048_0_1 qBlockCol) (broadcastInDim S256x2048 ![0, 1] bcast_S1x2048_S256x2048_0_1 kBlockRow)) (cmpi .eq (broadcastInDim S256x2048 ![0, 1] bcast_S1x2048_S256x2048_0_1 kBlock4) (broadcastInDim S256x2048 ![0, 1] bcast_S256x1_S256x2048_0_1 qBlock4))
/-- Whether any entry of a row is kept. -/
def keep : IVec S1x1x256x1 1 :=
  broadcastInDim S1x1x256x1 ![2] bcast_S256_S1x1x256x1_2 (Host.reduce IntOp.ori mask (constantI S_ 1 0#1) reducesTo_S256x2048_S256_d1 h_S_)

/-- Query row `i` lies in block `i / 64`. -/
theorem qBlock_apply (i : Fin 256) : qBlock (ix1 i) = BitVec.ofNat 32 (i.val / 64) := by
  pointwise [qBlock]
  revert i
  decide +kernel

/-- Key row `k` lies in block `k / 64`. -/
theorem kBlock_apply (k : Fin 2048) : kBlock (ix1 k) = BitVec.ofNat 32 (k.val / 64) := by
  pointwise [kBlock]
  revert k
  decide +kernel

/-- The remainder by four of a query row's block. -/
theorem qBlock4_apply (i : Fin 256) : qBlock4 (ix2 i 0) = BitVec.ofNat 32 (i.val / 64 % 4) := by
  pointwise [qBlock4, qBlockCol, four, qBlock_apply]
  obtain ⟨n, hn⟩ : ∃ n : Fin 4, n.val = i.val / 64 := ⟨⟨i.val / 64, by omega⟩, rfl⟩
  rw [← hn]
  clear hn
  revert n
  decide +kernel

/-- The remainder by four of a key row's block. -/
theorem kBlock4_apply (k : Fin 2048) : kBlock4 (ix2 0 k) = BitVec.ofNat 32 (k.val / 64 % 4) := by
  pointwise [kBlock4, kBlockRow, four, kBlock_apply]
  obtain ⟨n, hn⟩ : ∃ n : Fin 32, n.val = k.val / 64 := ⟨⟨k.val / 64, by omega⟩, rfl⟩
  rw [← hn]
  clear hn
  revert n
  decide +kernel

/-- Whether query row `i` meets key row `k`. -/
def Meets (i : Fin 256) (k : Fin 2048) : Prop := k.val / 64 % 4 = i.val / 64
instance (i : Fin 256) : DecidablePred (Meets i) := fun k => inferInstanceAs (Decidable (k.val / 64 % 4 = i.val / 64))

/-- Every query row meets a key row. -/
theorem meets_some (i : Fin 256) : ∃ k, Meets i k := ⟨⟨i.val, by omega⟩, by unfold Meets; show i.val / 64 % 4 = i.val / 64; omega⟩

/-- The mask keeps exactly the pairs of rows that meet. -/
theorem mask_apply (i : Fin 256) (k : Fin 2048) : mask (ix2 i k) = BitVec.ofBool (decide (Meets i k)) := by
  pointwise [mask, qBlockCol, kBlockRow, qBlock_apply, kBlock_apply, qBlock4_apply, kBlock4_apply]
  obtain ⟨n, hn⟩ : ∃ n : Fin 4, n.val = i.val / 64 := ⟨⟨i.val / 64, by omega⟩, rfl⟩
  obtain ⟨r, hr⟩ : ∃ r : Fin 32, r.val = k.val / 64 := ⟨⟨k.val / 64, by omega⟩, rfl⟩
  have e : decide (Meets i k) = decide (k.val / 64 % 4 = i.val / 64) := rfl
  rw [e, ← hn, ← hr]
  clear hn hr
  revert n r
  decide +kernel

/-- Every row is kept. -/
theorem keep_apply (i : Fin 256) : keep (ix4 0 0 i 0) = 1#1 := by
  pointwise [keep, mask_apply]
  rw [Routing.fold_ori]
  obtain ⟨k, hk⟩ := meets_some i
  exact ⟨k, by simp [hk]⟩

/-! ## The scores -/

section
variable (x : FVec Ideal S2x256x512 .f32) (wq : FVec Ideal S512x256 .f32) (k v : FVec Ideal S2x2048x4x64 .f32) (wo : FVec Ideal S256x512 .f32)

/-- The mask over batch entries and heads. -/
def maskAll : IVec S2x4x256x2048 1 :=
  broadcastInDim S2x4x256x2048 ![0, 1, 2, 3] bcast_S1x1x256x2048_S2x4x256x2048_0_1_2_3 (broadcastInDim S1x1x256x2048 ![2, 3] bcast_S256x2048_S1x1x256x2048_2_3 mask)
/-- The scores. -/
def scores : FVec Ideal S2x4x256x2048 .f32 :=
  mulf (Host.dotGeneral dot_S2x256x4x64_S2x2048x4x64_S2x4x256x2048_3_3_1_1_02_02 none (shapeCast _ (Host.dotGeneral dot_S2x256x512_S512x256_S2x256x256_2_0_01_1_n_n none x wq) shapeCasts_S2x256x256_S2x256x4x64) k) (broadcastInDim S2x4x256x2048 ![] bcast_S_S2x4x256x2048 (constant S_ .f32 0x3E000000#32))
/-- The masked scores. -/
def masked : FVec Ideal S2x4x256x2048 .f32 :=
  select maskAll (scores x wq k) (broadcastInDim S2x4x256x2048 ![] bcast_S_S2x4x256x2048 (id (constant S_ .f32 0xFF800000#32)))
/-- Their row maxima. -/
def rowMax : FVec Ideal S2x4x256 .f32 :=
  Host.reduce FloatOps.maximumf (masked x wq k) (constant S_ .f32 0xFF800000#32) reducesTo_S2x4x256x2048_S2x4x256_d3 h_S_
/-- The exponentials of the differences. -/
def expo : FVec Ideal S2x4x256x2048 .f32 :=
  Host.exp (subf (masked x wq k) (broadcastInDim S2x4x256x2048 ![0, 1, 2, 3] bcast_S2x4x256x1_S2x4x256x2048_0_1_2_3 (broadcastInDim S2x4x256x1 ![0, 1, 2] bcast_S2x4x256_S2x4x256x1_0_1_2 (rowMax x wq k))))
/-- The weights. -/
def weights : FVec Ideal S2x4x256x2048 .f32 :=
  select (broadcastInDim S2x4x256x2048 ![0, 1, 2, 3] bcast_S1x1x256x1_S2x4x256x2048_0_1_2_3 keep) (Host.divf (expo x wq k) (broadcastInDim S2x4x256x2048 ![0, 1, 2, 3] bcast_S2x4x256x1_S2x4x256x2048_0_1_2_3 (select (broadcastInDim S2x4x256x1 ![0, 1, 2, 3] bcast_S1x1x256x1_S2x4x256x1_0_1_2_3 keep) (broadcastInDim S2x4x256x1 ![0, 1, 2] bcast_S2x4x256_S2x4x256x1_0_1_2 (Host.reduceAdd (expo x wq k) (constant S_ .f32 0x00000000#32) reducesTo_S2x4x256x2048_S2x4x256_d3 h_S_)) (broadcastInDim S2x4x256x1 ![] bcast_S_S2x4x256x1 (id (constant S_ .f32 0x3F800000#32)))))) (broadcastInDim S2x4x256x2048 ![] bcast_S_S2x4x256x2048 (id (constant S_ .f32 0x00000000#32)))
/-- The attention output. -/
def ctx : FVec Ideal S2x256x256 .f32 :=
  shapeCast _ (transpose S2x256x4x64 [0, 3, 1, 2] (Host.dotGeneral dot_S2x2048x4x64_S2x4x256x2048_S2x4x64x256_1_3_3_2_02_01 none v (weights x wq k)) transposes_S2x4x64x256_S2x256x4x64_0_3_1_2) shapeCasts_S2x256x4x64_S2x256x256
/-- The result. -/
def out : FVec Ideal S2x256x512 .f32 :=
  Host.dotGeneral dot_S2x256x256_S256x512_S2x256x512_2_0_01_1_n_n none (ctx x wq k v) wo

/-- A masked score: the score where the rows meet, minus infinity elsewhere. -/
theorem masked_apply (b : Fin 2) (h : Fin 4) (i : Fin 256) (j : Fin 2048) :
    masked x wq k (ix4 b h i j) = if Meets i j then scores x wq k (ix4 b h i j) else ⊥ := by
  pointwise [masked, maskAll, mask_apply]
  rw [← minus_infinity]
  rfl

/-- A row maximum, as the maximum of the masked scores of the row. -/
theorem rowMax_apply (b : Fin 2) (h : Fin 4) (i : Fin 256) :
    rowMax x wq k (ix3 b h i) = Finset.univ.fold max ⊥ (fun j : Fin 2048 => masked x wq k (ix4 b h i j)) := by
  pointwise [rowMax]
  rw [minus_infinity]

/-- An exponential, of the masked score less the row maximum. -/
theorem expo_apply (b : Fin 2) (h : Fin 4) (i : Fin 256) (j : Fin 2048) :
    expo x wq k (ix4 b h i j) = Ideal.exp (masked x wq k (ix4 b h i j) - rowMax x wq k (ix3 b h i)) := by
  pointwise [expo]

/-- A weight: its exponential over the sum of the row's exponentials. -/
theorem weights_apply (b : Fin 2) (h : Fin 4) (i : Fin 256) (j : Fin 2048) :
    weights x wq k (ix4 b h i j) = Ideal.div (expo x wq k (ix4 b h i j)) (∑ j' : Fin 2048, expo x wq k (ix4 b h i j')) := by
  pointwise [weights, keep_apply]

/-- A score: one eighth of the product of a projected query and a key. -/
theorem scores_apply (b : Fin 2) (h : Fin 4) (i : Fin 256) (j : Fin 2048) :
    scores x wq k (ix4 b h i j)
      = (∑ d : Fin 64, (∑ t : Fin 512, x (ix3 b i t) * wq (ix2 t ⟨64 * h.val + d.val, by omega⟩)) * k (ix4 b j h d)) * ((1 / 8 : ℝ) : EReal) := by
  pointwise [scores]
  rw [eighth]
  simp only [Nat.mul_comm h.val 64]

/-- An entry of the attention output: the sum over all keys of value times weight. -/
theorem ctx_apply (b : Fin 2) (i : Fin 256) (h : Fin 4) (d : Fin 64) :
    ctx x wq k v (ix3 b i ⟨64 * h.val + d.val, by omega⟩) = ∑ j : Fin 2048, v (ix4 b j h d) * weights x wq k (ix4 b h i j) := by
  have e : (⟨64 * h.val + d.val, by omega⟩ : Fin 256) = ⟨h.val * 64 + d.val, by omega⟩ := Fin.ext (by show 64 * h.val + d.val = h.val * 64 + d.val; omega)
  rw [e]
  pointwise [ctx]

/-- An entry of the result: a row of the attention output times a column of `Wo`. -/
theorem out_apply (b : Fin 2) (i : Fin 256) (n : Fin 512) :
    out x wq k v wo (ix3 b i n) = ∑ t : Fin 256, ctx x wq k v (ix3 b i t) * wo (ix2 t n) := by
  pointwise [out]
end

/-- The reference's composed term is this. -/
theorem res_eq (m : (ℓ : Loc nD τ sig) → Buf (Elt Ideal) ℓ) (c : Dev nD) :
    Cert.ReferenceIdeal.Value.res_out0 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Attn.Ref
-- ==== Proof.Equal.lean ====
/-
# One value

Of real scores, the kernel's result and the reference's are one value. On a device the sum over the eight blocks of 256
keys is the sum over all 2048 keys; the normaliser divides the weighted sum, and the weights divided first give the
same; the row maximum the reference subtracts cancels.
-/
module

public import proofs.«01_k».proof.Proof.Result
public import proofs.«01_k».proof.Proof.Reference

@[expose] public section

set_option maxRecDepth 16384

noncomputable section

namespace Cert.Attn

open Idealize.ShloMosaic
open Cert.Attn.Ref (Meets meets_some)

section
variable (xr : Fin 2 → Fin 256 → Fin 512 → ℝ) (wr : Fin 512 → Fin 256 → ℝ) (kr : Fin 2 → Fin 2048 → Fin 4 → Fin 64 → ℝ)

/-- Column `d` of head `h`. -/
abbrev col (h : Fin 4) (d : Fin 64) : Fin 256 := ⟨64 * h.val + d.val, by omega⟩

/-- The score of query row `i` and key row `j`. -/
def sc (b : Fin 2) (h : Fin 4) (i : Fin 256) (j : Fin 2048) : ℝ :=
  (∑ d : Fin 64, (∑ t : Fin 512, xr b i t * wr t (col h d)) * kr b j h d) * (1 / 8)

/-- The attention output of a head at a query row and a column, over any values. -/
def attn (b : Fin 2) (h : Fin 4) (i : Fin 256) (V : Fin 2048 → EReal) : EReal :=
  ∑ j : Fin 2048, V j * ((wexp (Meets i) (sc xr wr kr b h i) j / ∑ j', wexp (Meets i) (sc xr wr kr b h i) j' : ℝ) : EReal)

section
variable (x : FVec Ideal Cert.ReferenceIdeal.S2x256x512 .f32) (wq : FVec Ideal Cert.ReferenceIdeal.S512x256 .f32)
  (k v : FVec Ideal Cert.ReferenceIdeal.S2x2048x4x64 .f32) (wo : FVec Ideal Cert.ReferenceIdeal.S256x512 .f32)
  (hx : ∀ b i t, x (ix3 b i t) = (xr b i t : EReal)) (hw : ∀ t n, wq (ix2 t n) = (wr t n : EReal))
  (hk : ∀ b j h d, k (ix4 b j h d) = (kr b j h d : EReal))

include hx hw hk

/-- The reference's weights. -/
theorem weights_coe (b : Fin 2) (h : Fin 4) (i : Fin 256) (j : Fin 2048) :
    Ref.weights x wq k (ix4 b h i j)
      = ((wexp (Meets i) (sc xr wr kr b h i) j / ∑ j', wexp (Meets i) (sc xr wr kr b h i) j' : ℝ) : EReal) := by
  have hs : ∀ j, Ref.scores x wq k (ix4 b h i j) = (sc xr wr kr b h i j : EReal) := fun j => by
    rw [Ref.scores_apply]
    simp only [hx, hw, hk]
    have e := score_coe' (xr b i) (fun t d => wr t (col h d)) (kr b j h)
    unfold sc
    rw [← e]
  have hm : ∀ j, Ref.masked x wq k (ix4 b h i j) = msc (Meets i) (sc xr wr kr b h i) j := fun j => by
    rw [Ref.masked_apply, hs]
    rfl
  obtain ⟨μ, hμ⟩ := fold_max_coe (Meets i) (sc xr wr kr b h i) (meets_some i)
  have hr : Ref.rowMax x wq k (ix3 b h i) = (μ : EReal) := by
    rw [Ref.rowMax_apply, ← hμ]
    exact congrArg (fun f => Finset.fold max ⊥ f Finset.univ) (funext hm)
  rw [Ref.weights_apply]
  simp only [Ref.expo_apply, hr, hm]
  exact softmax_coe (Meets i) (sc xr wr kr b h i) (meets_some i) μ j

/-- An entry of the reference's result, head by head. -/
theorem ref_out (b : Fin 2) (i : Fin 256) (n : Fin 512) :
    Ref.out x wq k v wo (ix3 b i n)
      = ∑ h : Fin 4, ∑ d : Fin 64, attn xr wr kr b h i (fun j => v (ix4 b j h d)) * wo (ix2 (col h d) n) := by
  rw [Ref.out_apply, Fin.sum_univ_tiles 4 64 rfl]
  refine Finset.sum_congr rfl fun h _ => Finset.sum_congr rfl fun d _ => ?_
  have e : (⟨h.val * 64 + d.val, by omega⟩ : Fin 256) = col h d := Fin.ext (by show h.val * 64 + d.val = 64 * h.val + d.val; omega)
  rw [e, Ref.ctx_apply]
  simp only [weights_coe xr wr kr x wq k hx hw hk]
  rfl
end

section
open Cert.KernelIdeal Cert.KernelIdeal.Gen
open Idealize.ShloMosaic.TcCoe
open Idealize.SL.Sem

/-- Row `c` of a device's block of keys, among all keys. -/
abbrev key (D : Dev nD) (c : Fin 256) : Fin 2048 := ⟨D.val * 256 + c.val, by have : D.val < 8 := D.isLt; omega⟩

variable (m : (ℓ : Loc nD τ sig) → Buf (Elt Ideal) ℓ)
  (hx : ∀ D b i t, X0 m D (ix3 b i t) = (xr b i t : EReal)) (hw : ∀ D t n, X1 m D (ix2 t n) = (wr t n : EReal))
  (hk : ∀ (D : Dev nD) b (c : Fin 256) h d, X2 m D (ix4 b c h d) = (kr b (key D c) h d : EReal))

include hx hw hk

/-- A device's masked exponentials. -/
theorem pE_coe (D : Dev nD) (b : Fin 2) (h : Fin 4) (i c : Fin 256) (j : Fin 2048) (hj : j.val = D.val * 256 + c.val) :
    pE (X0 m D) (X1 m D) (X2 m D) b h i c = (wexp (Meets i) (sc xr wr kr b h i) j : EReal) := by
  obtain rfl : key D c = j := Fin.ext hj.symm
  have hs : scoreE (X0 m D) (X1 m D) (X2 m D) b h i c = (sc xr wr kr b h i (key D c) : EReal) := by
    unfold scoreE
    simp only [hx, hw, hk]
    have e := score_coe (xr b i) (fun t d => wr t (col h d)) (kr b (key D c) h)
    unfold sc
    rw [← e]
  unfold pE wexp
  rw [hs]
  have hi := i.isLt
  have hD : D.val < 8 := D.isLt
  by_cases hc : c.val / 64 = i.val / 64
  · have hM : Meets i (key D c) := by
      show (D.val * 256 + c.val) / 64 % 4 = i.val / 64
      omega
    rw [if_pos hc, if_pos hM, Ideal.exp_coe]
  · have hM : ¬ Meets i (key D c) := by
      show ¬ (D.val * 256 + c.val) / 64 % 4 = i.val / 64
      omega
    rw [if_neg hc, if_neg hM, EReal.coe_zero]

/-- An entry of the kernel's result, head by head. -/
theorem kernel_out (V : Fin 2 → Fin 2048 → Fin 4 → Fin 64 → EReal)
    (hv : ∀ (D : Dev nD) b (c : Fin 256) h d, X3 m D (ix4 b c h d) = V b (key D c) h d)
    (c : Dev nD) (b : Fin 2) (i : Fin 256) (n : Fin 512) :
    outAt m c (ix3 b i n)
      = ∑ h : Fin 4, ∑ d : Fin 64, attn xr wr kr b h i (fun j => V b j h d) * X4 m c (ix2 (col h d) n) := by
  rw [outAt_apply]
  refine Finset.sum_congr rfl fun h _ => Finset.sum_congr rfl fun d _ => ?_
  have h₁ : ctxS m b h i d = ∑ j : Fin 2048, (wexp (Meets i) (sc xr wr kr b h i) j : EReal) * V b j h d := by
    rw [Fin.sum_univ_tiles 8 256 rfl]
    refine Finset.sum_congr rfl fun D _ => Finset.sum_congr rfl fun c _ => ?_
    rw [pE_coe xr wr kr m hx hw hk D b h i c (key D c) rfl, hv]
  have h₂ : lS m b h i = ∑ j : Fin 2048, (wexp (Meets i) (sc xr wr kr b h i) j : EReal) := by
    rw [Fin.sum_univ_tiles 8 256 rfl]
    exact Finset.sum_congr rfl fun D _ => Finset.sum_congr rfl fun c _ => pE_coe xr wr kr m hx hw hk D b h i c (key D c) rfl
  rw [h₁, h₂, div_sum (Meets i) (sc xr wr kr b h i) (meets_some i)]
  rfl
end
end

end Cert.Attn
-- ==== Proof.Finite.lean ====
/-
# Finite inputs

The precondition read back: the entries of `x`, `Wq` and a device's block of `K` are real numbers.
-/
module

public import proofs.«01_k».proof.Defs
public import proofs.«01_k».proof.Proof.Algebra
import Idealize.ShloMosaic.Lib.ReduceAll

@[expose] public section

noncomputable section

namespace Cert.Attn

open Idealize.ShloMosaic

/-- The side conditions of the precondition over a device's blocks. -/
theorem pre_kernel : Cert.Pre_finite_inputs_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x4x64 := by decide
  reducesTo_S2x256x4x64_S_d0_1_2_3 := by decide

/-- The side conditions of the precondition over whole arrays. -/
theorem pre_reference : Cert.Pre_finite_inputs_ReferenceIdeal.Facts where
  bcast_S_S2x256x512 := by decide
  reducesTo_S2x256x512_S_d0_1_2 := by decide
  h_S_ := by decide
  bcast_S_S512x256 := by decide
  reducesTo_S512x256_S_d0_1 := by decide
  bcast_S_S2x2048x4x64 := by decide
  reducesTo_S2x2048x4x64_S_d0_1_2_3 := by decide

/-- An extended real whose absolute value is less than infinity is a real number. -/
theorem real_of_olt (a : EReal) (h : Ideal.cmp .olt (max a (-a)) (Ideal.ofBits .f32 0x7F800000#32) = 1#1) : ∃ r : ℝ, a = (r : EReal) := by
  rw [plus_infinity] at h
  have h' : max a (-a) < ⊤ := by
    by_contra hc
    have e : Ideal.cmp .olt (max a (-a)) ⊤ = 0#1 := by
      show BitVec.ofBool (decide (max a (-a) < ⊤)) = 0#1
      rw [decide_eq_false hc]
      rfl
    rw [e] at h
    exact absurd h (by decide)
  refine ⟨a.toReal, (EReal.coe_toReal (fun ht => ?_) (fun hb => ?_)).symm⟩
  · rw [ht] at h'; exact absurd h' (by simp)
  · rw [hb] at h'; exact absurd h' (by simp)

section
open Cert.Pre_finite_inputs_KernelIdeal

variable [Facts]

instance : Subsingleton S_.Idx := ⟨fun _ _ => funext fun a => a.elim0⟩

/-- Where the precondition holds, the entries of the first three arguments are real numbers. -/
theorem real_of_pre (x : FVec Ideal S2x256x512 .f32) (wq : FVec Ideal S512x256 .f32) (k v : FVec Ideal S2x256x4x64 .f32)
    (wo : FVec Ideal S256x512 .f32) (h : fn (F := Ideal) x wq k v wo = fun _ => 1#1) :
    (∀ y, ∃ r : ℝ, x y = (r : EReal)) ∧ (∀ y, ∃ r : ℝ, wq y = (r : EReal)) ∧ (∀ y, ∃ r : ℝ, k y = (r : EReal)) := by
  have h0 := congrFun h ix0
  unfold fn at h0
  obtain ⟨h1, hk⟩ := IntOp.andi_eq_one.1 h0
  obtain ⟨hx, hw⟩ := IntOp.andi_eq_one.1 h1
  exact ⟨fun y => real_of_olt _ (Host.reduce_andi_all _ _ _ _ _ hx y), fun y => real_of_olt _ (Host.reduce_andi_all _ _ _ _ _ hw y),
    fun y => real_of_olt _ (Host.reduce_andi_all _ _ _ _ _ hk y)⟩
end

end Cert.Attn
-- ==== Proof.Value.lean ====
/-
# The value

From one global input, of which each device holds its blocks of `K` and `V` and the rest whole, every device's result is
the reference's.
-/
module

public import proofs.«01_k».proof.Proof.Equal
public import proofs.«01_k».proof.Proof.Finite
public import proofs.«01_k».proof.Proof.Frames
public import Idealize.ShloMosaic.Lib.LayoutAt

@[expose] public section

set_option maxRecDepth 16384

noncomputable section

namespace Cert.Attn

open Idealize.ShloMosaic Idealize.SL.Sem
open Idealize.ShloMosaic.TcCoe

section
open Cert.KernelIdeal Cert.KernelIdeal.Gen

variable (m : (ℓ : Loc nD τ sig) → Buf (Elt Ideal) ℓ)

/-- A device's window on an argument is the whole argument. -/
theorem X0_eq (c : Dev nD) : X0 m c = m ((c.tc : Thread nD τ).loc main_arg0) := by
  funext y
  refine congrArg (m ((c.tc : Thread nD τ).loc main_arg0)) (?_ : (win0_0.blk t0_0).view.emb y = y)
  have e : win0_0.index t0_0 = fun _ => 0 := rfl
  blk_ext [e]
/-- A device's window on `Wq` is the whole of its `Wq`. -/
theorem X1_eq (c : Dev nD) : X1 m c = m ((c.tc : Thread nD τ).loc main_arg1) := by
  funext y
  refine congrArg (m ((c.tc : Thread nD τ).loc main_arg1)) (?_ : (win0_1.blk t0_0).view.emb y = y)
  have e : win0_1.index t0_0 = fun _ => 0 := rfl
  blk_ext [e]
/-- A device's window on its block of `K` is the whole block. -/
theorem X2_eq (c : Dev nD) : X2 m c = m ((c.tc : Thread nD τ).loc main_arg2) := by
  funext y
  refine congrArg (m ((c.tc : Thread nD τ).loc main_arg2)) (?_ : (win0_2.blk t0_0).view.emb y = y)
  have e : win0_2.index t0_0 = fun _ => 0 := rfl
  blk_ext [e]
/-- A device's window on its block of `V` is the whole block. -/
theorem X3_eq (c : Dev nD) : X3 m c = m ((c.tc : Thread nD τ).loc main_arg3) := by
  funext y
  refine congrArg (m ((c.tc : Thread nD τ).loc main_arg3)) (?_ : (win0_3.blk t0_0).view.emb y = y)
  have e : win0_3.index t0_0 = fun _ => 0 := rfl
  blk_ext [e]
/-- A device's window on `Wo` is the whole of its `Wo`. -/
theorem X4_eq (c : Dev nD) : X4 m c = m ((c.tc : Thread nD τ).loc main_arg4) := by
  funext y
  refine congrArg (m ((c.tc : Thread nD τ).loc main_arg4)) (?_ : (win0_4.blk t0_0).view.emb y = y)
  have e : win0_4.index t0_0 = fun _ => 0 := rfl
  blk_ext [e]

/-- A device's block of an array of keys or values. -/
theorem block_key (h : Layout.Tiles ⟨4, ![2, 256, 4, 64]⟩ ⟨4, ![2, 2048, 4, 64]⟩ 1 8) (D : Dev nD) (A : FVec Ideal Cert.ReferenceIdeal.S2x2048x4x64 .f32)
    (b : Fin 2) (c : Fin 256) (g : Fin 4) (d : Fin 64) :
    Layout.block ⟨4, ![2, 256, 4, 64]⟩ ⟨4, ![2, 2048, 4, 64]⟩ 1 8 D A h (ix4 b c g d) = A (ix4 b (key D c) g d) := by
  rw [Layout.block_apply]
  shard_ext

/-- Every device's result is the reference's, where `x`, `Wq` and `K` are real. -/
theorem value_eq (A0 : FVec Ideal Cert.ReferenceIdeal.S2x256x512 .f32) (A1 : FVec Ideal Cert.ReferenceIdeal.S512x256 .f32)
    (A2 A3 : FVec Ideal Cert.ReferenceIdeal.S2x2048x4x64 .f32) (A4 : FVec Ideal Cert.ReferenceIdeal.S256x512 .f32)
    (h0 : ∀ D, X0 m D = A0) (h1 : ∀ D, X1 m D = A1)
    (h2 : ∀ (D : Dev nD) b c g d, X2 m D (ix4 b c g d) = A2 (ix4 b (key D c) g d))
    (h3 : ∀ (D : Dev nD) b c g d, X3 m D (ix4 b c g d) = A3 (ix4 b (key D c) g d)) (h4 : ∀ D, X4 m D = A4)
    (r0 : ∀ y, ∃ r : ℝ, A0 y = (r : EReal)) (r1 : ∀ y, ∃ r : ℝ, A1 y = (r : EReal))
    (r2 : ∀ D y, ∃ r : ℝ, X2 m D y = (r : EReal)) (c : Dev nD) : outAt m c = Ref.out A0 A1 A2 A3 A4 := by
  have rk : ∀ y : (⟨4, ![2, 2048, 4, 64]⟩ : Shape).Idx, ∃ r : ℝ, A2 y = (r : EReal) := fun y => by
    have hj : (y (1 : Fin 4)).val < 2048 := (y (1 : Fin 4)).isLt
    obtain ⟨r, hr⟩ := r2 (⟨(y (1 : Fin 4)).val / 256, by omega⟩ : Fin 8) (ix4 (y 0) ⟨(y (1 : Fin 4)).val % 256, Nat.mod_lt _ (by decide)⟩ (y 2) (y 3))
    have e : y 1 = key (⟨(y (1 : Fin 4)).val / 256, by omega⟩ : Fin 8) ⟨(y (1 : Fin 4)).val % 256, Nat.mod_lt _ (by decide)⟩ :=
      Fin.ext (by show (y (1 : Fin 4)).val = (y (1 : Fin 4)).val / 256 * 256 + (y (1 : Fin 4)).val % 256; omega)
    have ey : y = ix4 (y 0) (key (⟨(y (1 : Fin 4)).val / 256, by omega⟩ : Fin 8) ⟨(y (1 : Fin 4)).val % 256, Nat.mod_lt _ (by decide)⟩) (y 2) (y 3) :=
      (eq_ix4 y).trans (congrArg (fun j => ix4 (y 0) j (y 2) (y 3)) e)
    exact ⟨r, ((congrArg A2 ey).trans (h2 _ _ _ _ _).symm).trans hr⟩
  choose fx hx using r0
  choose fw hw using r1
  choose fk hk using rk
  funext y
  rw [eq_ix3 y]
  have ek := kernel_out (fun b i t => fx (ix3 b i t)) (fun t n => fw (ix2 t n)) (fun b j h d => fk (ix4 b j h d)) m
    (fun D b i t => by rw [h0]; exact hx _) (fun D t n => by rw [h1]; exact hw _) (fun D b c h d => by rw [h2]; exact hk _)
    (fun b j h d => A3 (ix4 b j h d)) h3 c (y 0) (y 1) (y 2)
  have er := ref_out (fun b i t => fx (ix3 b i t)) (fun t n => fw (ix2 t n)) (fun b j h d => fk (ix4 b j h d)) A0 A1 A2 A3 A4
    (fun b i t => hx _) (fun t n => hw _) (fun b j h d => hk _) (y 0) (y 1) (y 2)
  rw [h4] at ek
  exact ek.trans er.symm
end

section
attribute [local instance] Cert.KernelIdeal.Gen.facts Cert.ReferenceIdeal.Gen.facts pre_kernel

/-- The kernel over exact numbers computes the reference's value. -/
theorem kernel_value : Cert.algebraic_KernelIdeal_ReferenceIdeal_pre_finite_inputs_KernelIdeal
    (hKernelIdeal := Cert.KernelIdeal.Gen.facts) (hReferenceIdeal := Cert.ReferenceIdeal.Gen.facts)
    (hPre_finite_inputs_KernelIdeal := pre_kernel) := fun m g m' g' hpre hin => by
  have r := fun c => real_of_pre _ _ _ _ _ (hpre c)
  have hval : ∀ c, outAt m c = Cert.ReferenceIdeal.Value.res_out0 m' 0 := fun c => by
    rw [Ref.res_eq]
    refine value_eq m _ _ _ _ _ (fun D => (X0_eq m D).trans (hin D).1) (fun D => (X1_eq m D).trans (hin D).2.1)
      (fun D b c g d => ?_) (fun D b c g d => ?_) (fun D => (X4_eq m D).trans (hin D).2.2.2.2) ?_ ?_ (fun D y => ?_) c
    · rw [X2_eq, (hin D).2.2.1]
      exact block_key _ D _ b c g d
    · rw [X3_eq, (hin D).2.2.2.1]
      exact block_key _ D _ b c g d
    · rw [← (hin 0).1]
      exact (r 0).1
    · rw [← (hin 0).2.1]
      exact (r 0).2.1
    · rw [X2_eq]
      exact (r D).2.2 y
  refine ⟨Cert.ReferenceIdeal.Value.res_out0 m' 0, ?_, ?_⟩
  · refine (θ_run Cert.KernelIdeal.defs _ _).mono (fun _ h c => ⟨?_, ?_, ?_, ?_, ?_, ?_⟩) (run_main (F := Ideal) m g)
    · exact (h.1 c (5 : Fin 6)).trans ((finalA_out m g c).trans (hval c))
    · exact (h.1 c (0 : Fin 6)).trans (finalA_in m g c 0 (by decide))
    · exact (h.1 c (1 : Fin 6)).trans (finalA_in m g c 1 (by decide))
    · exact (h.1 c (2 : Fin 6)).trans (finalA_in m g c 2 (by decide))
    · exact (h.1 c (3 : Fin 6)).trans (finalA_in m g c 3 (by decide))
    · exact (h.1 c (4 : Fin 6)).trans (finalA_in m g c 4 (by decide))
  · exact (θ_run Cert.ReferenceIdeal.defs _ _).mono (fun _ h => h 0) (Cert.ReferenceIdeal.Value.run m' g')
end

end Cert.Attn
-- ==== Proof.lean ====
/-
# The certificate's claims

`Proof/Frames.lean` proves the frames, `Proof/Value.lean` the value.
-/
module

public import proofs.«01_k».proof.Defs
public import proofs.«01_k».proof.Proof.Frames
public import proofs.«01_k».proof.Proof.Value

@[expose] public section

noncomputable section

namespace Cert.Proof

/-- All claims of the certificate. -/
theorem claim : Cert.Claim :=
  ⟨Cert.Kernel.Gen.facts, Cert.KernelIdeal.Gen.facts, Cert.ReferenceIdeal.Gen.facts, Cert.Attn.pre_kernel, Cert.Attn.pre_reference,
    Cert.Attn.frame_kernel, Cert.Attn.frame_kernel_ideal, fun m g _ => Cert.Attn.frame_kernel_ideal m g trivial,
    Cert.Attn.frame_reference, fun m g _ => Cert.Attn.frame_reference m g trivial, trivial, Cert.Attn.kernel_value⟩

end Cert.Proof

end
